-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_reg" .f32 0x41A00000#32 ((268435456 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x64 : Shape := ⟨2, ![1024, 64]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S1024x256 : Shape := ⟨2, ![1024, 256]⟩
abbrev S1x256 : Shape := ⟨2, ![1, 256]⟩
abbrev S1024x512 : Shape := ⟨2, ![1024, 512]⟩
abbrev S1x512 : Shape := ⟨2, ![1, 512]⟩
abbrev S1x64 : Shape := ⟨2, ![1, 64]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩
abbrev S1x1x1024 : Shape := ⟨3, ![1, 1, 1024]⟩
abbrev S1x128 : Shape := ⟨2, ![1, 128]⟩

abbrev nBuf : Space → Nat
  | .hbm => 19
  | .vmem => 19
  | .smem => 0
  | _ => 0

abbrev bufTy : (tb : Table) → Fin (tcTables nBuf tb) → BufTy
  | .hbm, ⟨0, _⟩ => ⟨S1024x128, .f32⟩
  | .hbm, ⟨1, _⟩ => ⟨S1024x64, .f32⟩
  | .hbm, ⟨2, _⟩ => ⟨S128x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S64x256, .f32⟩
  | .hbm, ⟨11, _⟩ => ⟨S256, .f32⟩
  | .hbm, ⟨12, _⟩ => ⟨S256x512, .f32⟩
  | .hbm, ⟨13, _⟩ => ⟨S512, .f32⟩
  | .hbm, ⟨14, _⟩ => ⟨S512x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S1024x128, .f32⟩
  | .local _ .vmem, ⟨0, _⟩ => ⟨S1024x128, .f32⟩
  | .local _ .vmem, ⟨1, _⟩ => ⟨S1024x64, .f32⟩
  | .local _ .vmem, ⟨2, _⟩ => ⟨S128x256, .f32⟩
  | .local _ .vmem, ⟨3, _⟩ => ⟨S256, .f32⟩
  | .local _ .vmem, ⟨4, _⟩ => ⟨S256x512, .f32⟩
  | .local _ .vmem, ⟨5, _⟩ => ⟨S512, .f32⟩
  | .local _ .vmem, ⟨6, _⟩ => ⟨S512x256, .f32⟩
  | .local _ .vmem, ⟨7, _⟩ => ⟨S256, .f32⟩
  | .local _ .vmem, ⟨8, _⟩ => ⟨S256x64, .f32⟩
  | .local _ .vmem, ⟨9, _⟩ => ⟨S64, .f32⟩
  | .local _ .vmem, ⟨10, _⟩ => ⟨S64x256, .f32⟩
  | .local _ .vmem, ⟨11, _⟩ => ⟨S256, .f32⟩
  | .local _ .vmem, ⟨12, _⟩ => ⟨S256x512, .f32⟩
  | .local _ .vmem, ⟨13, _⟩ => ⟨S512, .f32⟩
  | .local _ .vmem, ⟨14, _⟩ => ⟨S512x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== KernelIdeal.lean ====
variable {F : FTy → Type} [FloatOps F] [Named F]
def κ : String → Option EReal := fun
  | "inv_reg" => some ((268435456 / 13421773 : ℝ) : EReal)
  | _ => none
-- ==== ReferenceIdeal.lean ====
abbrev S1024x128 : Shape := ⟨2, ![1024, 128]⟩
abbrev S1024x64 : Shape := ⟨2, ![1024, 64]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S1024x256 : Shape := ⟨2, ![1024, 256]⟩
abbrev S1x256 : Shape := ⟨2, ![1, 256]⟩
abbrev S_ : Shape := ⟨0, ![]⟩
abbrev S1024x512 : Shape := ⟨2, ![1024, 512]⟩
abbrev S1x512 : Shape := ⟨2, ![1, 512]⟩
abbrev S1x64 : Shape := ⟨2, ![1, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩
abbrev S1x128 : Shape := ⟨2, ![1, 128]⟩

abbrev nBuf : Space → Nat
  | .hbm => 167
  | .vmem => 0
  | .smem => 0
  | _ => 0

abbrev hbmTy0_0 (i : Nat) : BufTy := match i % 128 with
  | 0 => ⟨S1024x128, .f32⟩
  | 1 => ⟨S1024x64, .f32⟩
  | 2 => ⟨S128x256, .f32⟩
  | 3 => ⟨S256, .f32⟩
  | 4 => ⟨S256x512, .f32⟩
  | 5 => ⟨S512, .f32⟩
  | 6 => ⟨S512x256, .f32⟩
  | 7 => ⟨S256, .f32⟩
  | 8 => ⟨S256x64, .f32⟩
  | 9 => ⟨S64, .f32⟩
  | 10 => ⟨S64x256, .f32⟩
  | 11 => ⟨S256, .f32⟩
  | 12 => ⟨S256x512, .f32⟩
  | 13 => ⟨S512, .f32⟩
  | 14 => ⟨S512x256, .f32⟩
  | 15 => ⟨S256, .f32⟩
  | 16 => ⟨S256x128, .f32⟩
  | 17 => ⟨S128, .f32⟩
  | 18 => ⟨S1024x256, .f32⟩
  | 19 => ⟨S1x256, .f32⟩
  | 20 => ⟨S1024x256, .f32⟩
  | 21 => ⟨S1024x256, .f32⟩
  | 22 => ⟨S_, .f32⟩
  | 23 => ⟨S1024x256, .f32⟩
  | 24 => ⟨S1024x256, .f32⟩
  | 25 => ⟨S1024x512, .f32⟩
  | 26 => ⟨S1x512, .f32⟩
  | 27 => ⟨S1024x512, .f32⟩
  | 28 => ⟨S1024x512, .f32⟩
  | 29 => ⟨S_, .f32⟩
  | 30 => ⟨S1024x512, .f32⟩
  | 31 => ⟨S1024x512, .f32⟩
  | 32 => ⟨S1024x256, .f32⟩
  | 33 => ⟨S1x256, .f32⟩
  | 34 => ⟨S1024x256, .f32⟩
  | 35 => ⟨S1024x256, .f32⟩
  | 36 => ⟨S_, .f32⟩
  | 37 => ⟨S1024x256, .f32⟩
  | 38 => ⟨S1024x256, .f32⟩
  | 39 => ⟨S1024x64, .f32⟩
  | 40 => ⟨S1x64, .f32⟩
  | 41 => ⟨S1024x64, .f32⟩
  | 42 => ⟨S1024x64, .f32⟩
  | 43 => ⟨S1024x64, .f32⟩
  | 44 => ⟨S_, .f32⟩
  | 45 => ⟨S1024, .f32⟩
  | 46 => ⟨S1024x1, .f32⟩
  | 47 => ⟨S1024x64, .f32⟩
  | 48 => ⟨S_, .f32⟩
  | 49 => ⟨S1024, .f32⟩
  | 50 => ⟨S1x1024, .f32⟩
  | 51 => ⟨S1024x1024, .f32⟩
  | 52 => ⟨S1024x1024, .f32⟩
  | 53 => ⟨S1024x1024, .f32⟩
  | 54 => ⟨S64x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S_, .f32⟩
  | 61 => ⟨S1024x1024, .f32⟩
  | 62 => ⟨S1024x1024, .f32⟩
  | 63 => ⟨S_, .f32⟩
  | 64 => ⟨S_, .f32⟩
  | 65 => ⟨S_, .f32⟩
  | 66 => ⟨S_, .f32⟩
  | 67 => ⟨S1024x1024, .f32⟩
  | 68 => ⟨S1024x1024, .f32⟩
  | 69 => ⟨S_, .f32⟩
  | 70 => ⟨S1024, .f32⟩
  | 71 => ⟨S_, .f32⟩
  | 72 => ⟨S1024, .f32⟩
  | 73 => ⟨S1024, .f32⟩
  | 74 => ⟨S_, .f32⟩
  | 75 => ⟨S1024, .f32⟩
  | 76 => ⟨S_, .f32⟩
  | 77 => ⟨S1024, .f32⟩
  | 78 => ⟨S1024, .f32⟩
  | 79 => ⟨S1024x1024, .f32⟩
  | 80 => ⟨S_, .f32⟩
  | 81 => ⟨S1024x1024, .f32⟩
  | 82 => ⟨S1024x1024, .f32⟩
  | 83 => ⟨S1024x1024, .f32⟩
  | 84 => ⟨S_, .f32⟩
  | 85 => ⟨S1024, .f32⟩
  | 86 => ⟨S_, .i32⟩
  | 87 => ⟨S_, .i1⟩
  | 88 => ⟨S_, .i32⟩
  | 89 => ⟨S1024x1024, .f32⟩
  | 90 => ⟨S1024, .f32⟩
  | 91 => ⟨S1024, .f32⟩
  | 92 => ⟨S_, .i32⟩
  | 93 => ⟨S_, .i32⟩
  | 94 => ⟨S1024, .f32⟩
  | 95 => ⟨S_, .i1⟩
  | 96 => ⟨S_, .i32⟩
  | 97 => ⟨S_, .i1⟩
  | 98 => ⟨S_, .i32⟩
  | 99 => ⟨S_, .i32⟩
  | 100 => ⟨S1024, .f32⟩
  | 101 => ⟨S_, .f32⟩
  | 102 => ⟨S1024, .f32⟩
  | 103 => ⟨S1024, .f32⟩
  | 104 => ⟨S1024, .f32⟩
  | 105 => ⟨S1024x1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .i1⟩
  | 117 => ⟨S_, .i1⟩
  | 118 => ⟨S_, .i1⟩
  | 119 => ⟨S1024, .f32⟩
  | 120 => ⟨S_, .i32⟩
  | 121 => ⟨S_, .i1⟩
  | 122 => ⟨S_, .i1⟩
  | 123 => ⟨S_, .i1⟩
  | 124 => ⟨S_, .i1⟩
  | 125 => ⟨S_, .i1⟩
  | 126 => ⟨S_, .i1⟩
  | 127 => ⟨S_, .i1⟩
  | _ => ⟨S1024x128, .f32⟩

abbrev hbmTy0_1 (i : Nat) : BufTy := match i % 128 with
  | 0 => ⟨S_, .i32⟩
  | 1 => ⟨S_, .i32⟩
  | 2 => ⟨S1024, .f32⟩
  | 3 => ⟨S_, .f32⟩
  | 4 => ⟨S1024, .f32⟩
  | 5 => ⟨S1024, .f32⟩
  | 6 => ⟨S1024, .f32⟩
  | 7 => ⟨S1024x1, .f32⟩
  | 8 => ⟨S1024x1024, .f32⟩
  | 9 => ⟨S1024x1024, .f32⟩
  | 10 => ⟨S1x1024, .f32⟩
  | 11 => ⟨S1024x1024, .f32⟩
  | 12 => ⟨S1024x1024, .f32⟩
  | 13 => ⟨S1024x64, .f32⟩
  | 14 => ⟨S1024x256, .f32⟩
  | 15 => ⟨S1x256, .f32⟩
  | 16 => ⟨S1024x256, .f32⟩
  | 17 => ⟨S1024x256, .f32⟩
  | 18 => ⟨S_, .f32⟩
  | 19 => ⟨S1024x256, .f32⟩
  | 20 => ⟨S1024x256, .f32⟩
  | 21 => ⟨S1024x512, .f32⟩
  | 22 => ⟨S1x512, .f32⟩
  | 23 => ⟨S1024x512, .f32⟩
  | 24 => ⟨S1024x512, .f32⟩
  | 25 => ⟨S_, .f32⟩
  | 26 => ⟨S1024x512, .f32⟩
  | 27 => ⟨S1024x512, .f32⟩
  | 28 => ⟨S1024x256, .f32⟩
  | 29 => ⟨S1x256, .f32⟩
  | 30 => ⟨S1024x256, .f32⟩
  | 31 => ⟨S1024x256, .f32⟩
  | 32 => ⟨S_, .f32⟩
  | 33 => ⟨S1024x256, .f32⟩
  | 34 => ⟨S1024x256, .f32⟩
  | 35 => ⟨S1024x128, .f32⟩
  | 36 => ⟨S1x128, .f32⟩
  | 37 => ⟨S1024x128, .f32⟩
  | 38 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_c : Ref sig .tc := ⟨.hbm, 86, rfl⟩
abbrev main_c_14 : Ref sig .tc := ⟨.hbm, 87, rfl⟩
abbrev main_c_15 : Ref sig .tc := ⟨.hbm, 88, rfl⟩
abbrev main_v53_0 : Ref sig .tc := ⟨.hbm, 89, rfl⟩
abbrev main_v53_1 : Ref sig .tc := ⟨.hbm, 90, rfl⟩
abbrev main_v53_2 : Ref sig .tc := ⟨.hbm, 91, rfl⟩
abbrev main_v53_3 : Ref sig .tc := ⟨.hbm, 92, rfl⟩
abbrev main_v53_4 : Ref sig .tc := ⟨.hbm, 93, rfl⟩
abbrev main_v53_5 : Ref sig .tc := ⟨.hbm, 94, rfl⟩
abbrev main_v53_6 : Ref sig .tc := ⟨.hbm, 95, rfl⟩
abbrev main_while0c_c_26 : Ref sig .tc := ⟨.hbm, 96, rfl⟩
abbrev main_while0c_v87 : Ref sig .tc := ⟨.hbm, 97, rfl⟩
abbrev main_while0b_c_26 : Ref sig .tc := ⟨.hbm, 98, rfl⟩
abbrev main_while0b_v87 : Ref sig .tc := ⟨.hbm, 99, rfl⟩
abbrev main_while0b_v88 : Ref sig .tc := ⟨.hbm, 100, rfl⟩
abbrev main_while0b_cst_27 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_v93 : Ref sig .tc := ⟨.hbm, 106, rfl⟩
abbrev main_while0b_cst_28 : Ref sig .tc := ⟨.hbm, 107, rfl⟩
abbrev main_while0b_v94 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_cst_29 : Ref sig .tc := ⟨.hbm, 113, rfl⟩
abbrev main_while0b_v99 : Ref sig .tc := ⟨.hbm, 114, rfl⟩
abbrev main_while0b_v100 : Ref sig .tc := ⟨.hbm, 115, rfl⟩
abbrev main_while0b_v101 : Ref sig .tc := ⟨.hbm, 116, rfl⟩
abbrev main_while0b_c_30 : Ref sig .tc := ⟨.hbm, 117, rfl⟩
abbrev main_while0b_v102 : Ref sig .tc := ⟨.hbm, 118, rfl⟩
abbrev main_while0b_v103 : Ref sig .tc := ⟨.hbm, 119, rfl⟩
abbrev main_while0b_c_31 : Ref sig .tc := ⟨.hbm, 120, rfl⟩
abbrev main_while0b_v104 : Ref sig .tc := ⟨.hbm, 121, rfl⟩
abbrev main_while0b_c_32 : Ref sig .tc := ⟨.hbm, 122, rfl⟩
abbrev main_while0b_v105 : Ref sig .tc := ⟨.hbm, 123, rfl⟩
abbrev main_while0b_v106 : Ref sig .tc := ⟨.hbm, 124, rfl⟩
abbrev main_while0b_v107 : Ref sig .tc := ⟨.hbm, 125, rfl⟩
abbrev main_while0b_v108 : Ref sig .tc := ⟨.hbm, 126, rfl⟩
abbrev main_while0b_v109 : Ref sig .tc := ⟨.hbm, 127, rfl⟩
abbrev main_while0b_c_33 : Ref sig .tc := ⟨.hbm, 128, rfl⟩
abbrev main_while0b_v110 : Ref sig .tc := ⟨.hbm, 129, rfl⟩
abbrev main_v54 : Ref sig .tc := ⟨.hbm, 130, rfl⟩
abbrev main_cst_16 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_cst_17 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_cst_18 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_cst_19 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩

abbrev nD : Nat := 1
abbrev τ : Topo := Topo.v7x

variable {F : FTy → Type} [FloatOps F]

abbrev main_while0_count : Scf.Loop 32 := ⟨0#32, 1000#32, 1#32⟩
-- ==== Proof.KI.Value.lean ====
/-
  What the kernel `KernelIdeal` computes, as a function of its eighteen arguments, for any float operations: the early-stopping
  loop as a recursion on the trips that remain, and the result block built from it.
-/
module

public import proofs.«01_k».proof.Proof.K.Run
public import proofs.«01_k».proof.KernelIdeal
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The loop -/

/-- The weight 1/1024 of every row and of every column, as the kernel writes it. -/
abbrev wt : F .f32 := Scalar.ofBits .f32 0x3A800000#32

/-- One trip of the loop on the column scaling `v`: a row scaling from `v`, then a new column scaling from it. -/
abbrev trip (K : FVec F S1024x1024 .f32) (v : FVec F S1x1024 .f32) : FVec F S1x1024 .f32 := k0_pay2 K wt wt v

/-- The stopping test of that trip: the largest excess of the step's length over the tolerance is at most zero. -/
abbrev near (K : FVec F S1024x1024 .f32) (v : FVec F S1x1024 .f32) : BitVec 1 :=
  Scalar.cmpf .ole (k0_pay3 K wt wt v) (Scalar.ofBits .f32 0x00000000#32)

/-- The trip counter when `n` trips remain before the bound 1000. -/
def ctr (n : ℕ) : BitVec 32 := BitVec.ofNat 32 (1000 - n)

/-- What the loop returns with at most `n` trips to run, from the column scaling `v` and the stopping flag `d`: it stops
    when no trip remains or the flag is set, and otherwise makes a trip and goes on with the flag that trip's test gives. -/
def runFrom (K : FVec F S1024x1024 .f32) : ℕ → FVec F S1x1024 .f32 → BitVec 1 → BitVec 32 × FVec F S1x1024 .f32 × BitVec 1
  | 0, v, d => (ctr 0, v, d)
  | n + 1, v, d => if d = 1#1 then (ctr (n + 1), v, d) else runFrom K n (trip K v) (near K v)

/-- While a trip remains the counter is below the bound, -/
theorem ctr_lt {n : ℕ} (h : n + 1 ≤ 1000) : Scalar.cmpi .slt (ctr (n + 1)) 1000#32 = 1#1 := by
  have h1 : (ctr (n + 1)).toInt = (1000 - (n + 1) : ℕ) := by
    unfold ctr
    rw [BitVec.toInt_eq_toNat_of_lt (by simp only [BitVec.toNat_ofNat]; omega), BitVec.toNat_ofNat,
      Nat.mod_eq_of_lt (by omega)]
  have h2 : (ctr (n + 1)).slt 1000#32 = true := by
    rw [BitVec.slt, h1]; exact decide_eq_true (by simp; omega)
  show BitVec.ofBool ((ctr (n + 1)).slt 1000#32) = 1#1
  rw [h2]; rfl

/-- with none it is not, -/
theorem ctr_zero_lt : Scalar.cmpi .slt (ctr 0) 1000#32 = 0#1 := by decide

/-- and a trip's step of the counter leaves one trip fewer. -/
theorem ctr_step {n : ℕ} (h : n + 1 ≤ 1000) : Scalar.addi (ctr (n + 1)) 1#32 = ctr n := by
  show ctr (n + 1) + 1#32 = ctr n
  unfold ctr; apply BitVec.eq_of_toNat_eq
  simp only [BitVec.toNat_add, BitVec.toNat_ofNat]; omega

/-- One bit is set or clear. -/
theorem bit_cases (d : BitVec 1) : d = 1#1 ∨ d = 0#1 := by revert d; decide

/-- The loop's condition: the counter is below the bound and the flag is clear. -/
theorem cond_set (b : BitVec 1) : Scalar.andi b (Scalar.xori 1#1 1#1) = 0#1 := by revert b; decide
theorem cond_clear (b : BitVec 1) : Scalar.andi b (Scalar.xori 0#1 1#1) = b := by revert b; decide

/-! ## The result -/

/-- The encoder's codes. -/
abbrev encOut (x0 : Vec F S1024x128 .f32) (x2 : Vec F S128x256 .f32) (x3 : Vec F S256 .f32) (x4 : Vec F S256x512 .f32) (x5 : Vec F S512 .f32) (x6 : Vec F S512x256 .f32) (x7 : Vec F S256 .f32) (x8 : Vec F S256x64 .f32) (x9 : Vec F S64 .f32) : FVec F S1024x64 .f32 :=
  k0_pay4 x0 x2 x3 x4 x5 x6 x7 x8 x9

section Result

variable (x0 : Vec F S1024x128 .f32) (x1 : Vec F S1024x64 .f32) (x2 : Vec F S128x256 .f32) (x3 : Vec F S256 .f32) (x4 : Vec F S256x512 .f32) (x5 : Vec F S512 .f32) (x6 : Vec F S512x256 .f32) (x7 : Vec F S256 .f32) (x8 : Vec F S256x64 .f32) (x9 : Vec F S64 .f32) (x10 : Vec F S64x256 .f32) (x11 : Vec F S256 .f32) (x12 : Vec F S256x512 .f32) (x13 : Vec F S512 .f32) (x14 : Vec F S512x256 .f32) (x15 : Vec F S256 .f32) (x16 : Vec F S256x128 .f32) (x17 : Vec F S128 .f32)

/-- The Gibbs kernel of the codes against the prior's samples. -/
def gibbs : FVec F S1024x1024 .f32 := k0_pay7 (encOut x0 x2 x3 x4 x5 x6 x7 x8 x9) x1 (k0_pay5 x0 x2 x3 x4 x5 x6 x7 x8 x9) (k0_pay6 x1)

/-- The column scaling after the two trips made before the loop. -/
def vTwo : FVec F S1x1024 .f32 :=
  k0_pay9 (gibbs x0 x1 x2 x3 x4 x5 x6 x7 x8 x9) (k0_pay8 (encOut x0 x2 x3 x4 x5 x6 x7 x8 x9) x1 (k0_pay5 x0 x2 x3 x4 x5 x6 x7 x8 x9) (k0_pay6 x1))

/-- The column scaling the loop ends with: at most 998 more trips. -/
def vEnd : FVec F S1x1024 .f32 := (runFrom (gibbs x0 x1 x2 x3 x4 x5 x6 x7 x8 x9) 998 (vTwo x0 x1 x2 x3 x4 x5 x6 x7 x8 x9) 0#1).2.1

/-- The result block: the plan applied to the prior's samples, decoded. -/
def out : FVec F S1024x128 .f32 :=
  k0_pay1 (k0_pay10 x1 (gibbs x0 x1 x2 x3 x4 x5 x6 x7 x8 x9) (vEnd x0 x1 x2 x3 x4 x5 x6 x7 x8 x9) x10 x11 x12) x13 x14 x15 x16 x17

end Result

end Cert.Proof.KI

end
-- ==== Proof.KI.Run.lean ====
/-
  The run of the kernel `KernelIdeal`, for any float operations: every weakly fair execution terminates with the semaphores at
  zero, the arguments as they were, and the result array at `out` of the arguments.
-/
module

public import proofs.«01_k».proof.Proof.KI.Value
public import Idealize.ShloMosaic.Lib.Pipeline.Sound
public import Idealize.ShloMosaic.Lib.Pipeline.KitQuiescent

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open sWPT (consume produce)

/-! ## The ghost algebra and the launch -/

/-- The ghost algebra: the staging cells' rounds, one duty per cell. -/
abbrev UR (nD : Nat) (τ : Topo) : Type := URounds (GSem nD τ sig) Unit

local notation "𝕄" => MT nD τ sig Unit (Elt F) ℕ (UR nD τ) ℕ

/-- Where it sits in the machine's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The loop's variant: a natural number, the trips that remain. -/
abbrev 𝒱₀ : Variants := Variants.nat

variable (m : (ℓ : Loc nD τ sig) → Buf (Elt F) ℓ) (ρ : Dev nD → PrngReg)

/-- The memory the run starts from: any contents, every semaphore at zero. -/
def s₀ : MemSt nD τ sig (Elt F) := ⟨m, fun _ => 0, ρ⟩

/-! ### The arguments as the kernel's body reads them -/

/-- Argument 0, whole. -/
abbrev inp0 (c : Dev nD) : Vec F S1024x128 .f32 := m ((c : Thread nD τ).loc main_arg0)
/-- Argument 1, whole. -/
abbrev inp1 (c : Dev nD) : Vec F S1024x64 .f32 := m ((c : Thread nD τ).loc main_arg1)
/-- Argument 2, whole. -/
abbrev inp2 (c : Dev nD) : Vec F S128x256 .f32 := m ((c : Thread nD τ).loc main_arg2)
/-- Argument 3, whole. -/
abbrev inp3 (c : Dev nD) : Vec F S256 .f32 := m ((c : Thread nD τ).loc main_arg3)
/-- Argument 4, whole. -/
abbrev inp4 (c : Dev nD) : Vec F S256x512 .f32 := m ((c : Thread nD τ).loc main_arg4)
/-- Argument 5, whole. -/
abbrev inp5 (c : Dev nD) : Vec F S512 .f32 := m ((c : Thread nD τ).loc main_arg5)
/-- Argument 6, whole. -/
abbrev inp6 (c : Dev nD) : Vec F S512x256 .f32 := m ((c : Thread nD τ).loc main_arg6)
/-- Argument 7, whole. -/
abbrev inp7 (c : Dev nD) : Vec F S256 .f32 := m ((c : Thread nD τ).loc main_arg7)
/-- Argument 8, whole. -/
abbrev inp8 (c : Dev nD) : Vec F S256x64 .f32 := m ((c : Thread nD τ).loc main_arg8)
/-- Argument 9, whole. -/
abbrev inp9 (c : Dev nD) : Vec F S64 .f32 := m ((c : Thread nD τ).loc main_arg9)
/-- Argument 10, whole. -/
abbrev inp10 (c : Dev nD) : Vec F S64x256 .f32 := m ((c : Thread nD τ).loc main_arg10)
/-- Argument 11, whole. -/
abbrev inp11 (c : Dev nD) : Vec F S256 .f32 := m ((c : Thread nD τ).loc main_arg11)
/-- Argument 12, whole. -/
abbrev inp12 (c : Dev nD) : Vec F S256x512 .f32 := m ((c : Thread nD τ).loc main_arg12)
/-- Argument 13, whole. -/
abbrev inp13 (c : Dev nD) : Vec F S512 .f32 := m ((c : Thread nD τ).loc main_arg13)
/-- Argument 14, whole. -/
abbrev inp14 (c : Dev nD) : Vec F S512x256 .f32 := m ((c : Thread nD τ).loc main_arg14)
/-- Argument 15, whole. -/
abbrev inp15 (c : Dev nD) : Vec F S256 .f32 := m ((c : Thread nD τ).loc main_arg15)
/-- Argument 16, whole. -/
abbrev inp16 (c : Dev nD) : Vec F S256x128 .f32 := m ((c : Thread nD τ).loc main_arg16)
/-- Argument 17, whole. -/
abbrev inp17 (c : Dev nD) : Vec F S128 .f32 := m ((c : Thread nD τ).loc main_arg17)

/-- The result block of the arguments `m` holds. -/
def outOf (c : Dev nD) : FVec F S1024x128 .f32 :=
  out (inp0 m c) (inp1 m c) (inp2 m c) (inp3 m c) (inp4 m c) (inp5 m c) (inp6 m c) (inp7 m c) (inp8 m c) (inp9 m c) (inp10 m c) (inp11 m c) (inp12 m c) (inp13 m c) (inp14 m c) (inp15 m c) (inp16 m c) (inp17 m c)

/-- The pipeline's data on core `c`: the arrays as launched; after the body each argument's staging buffer still holds the
    argument and the result's holds `outOf`; no invariant, nothing owed. -/
def dats (_ : Fin 1) (c : Dev nD) : Dat τ (Elt F) Unit ℕ (UR nD τ) ℕ (cfg0 (F := F)) c where
  A w := m (((cfg0 (F := F)).win w).arr.view.loc (c : Thread nD τ))
  after w _ := match w with
    | ⟨0, _⟩ => inp0 m c
    | ⟨1, _⟩ => inp1 m c
    | ⟨2, _⟩ => inp2 m c
    | ⟨3, _⟩ => inp3 m c
    | ⟨4, _⟩ => inp4 m c
    | ⟨5, _⟩ => inp5 m c
    | ⟨6, _⟩ => inp6 m c
    | ⟨7, _⟩ => inp7 m c
    | ⟨8, _⟩ => inp8 m c
    | ⟨9, _⟩ => inp9 m c
    | ⟨10, _⟩ => inp10 m c
    | ⟨11, _⟩ => inp11 m c
    | ⟨12, _⟩ => inp12 m c
    | ⟨13, _⟩ => inp13 m c
    | ⟨14, _⟩ => inp14 m c
    | ⟨15, _⟩ => inp15 m c
    | ⟨16, _⟩ => inp16 m c
    | ⟨17, _⟩ => inp17 m c
    | ⟨18, _⟩ => outOf m c
    | ⟨_ + 19, h⟩ => absurd h (Nat.not_lt.2 (Nat.le_add_left _ _))
  Φ _ := iprop(emp)
  q _ := fullShare
  owed _ := 0

/-! ## The loop's label -/

/-- The specification of the loop with at most `n` trips to run: it needs nothing and returns `runFrom`'s value. -/
def spec (K : FVec F S1024x1024 .f32) (n : ℕ) (v : FVec F S1x1024 .f32) (d : BitVec 1) :
    sWPT 𝕄 (BitVec 32 × FVec F S1x1024 .f32 × BitVec 1) := pure (runFrom K n v d)

theorem spec_apply (K : FVec F S1024x1024 .f32) (n : ℕ) (v : FVec F S1x1024 .f32) (d : BitVec 1)
    (Q : BitVec 32 × FVec F S1x1024 .f32 × BitVec 1 → sProp 𝕄) : spec K n v d Q = Q (runFrom K n v d) := rfl

/-- The loop's body meets it, by induction on the trips that remain. -/
theorem spec_le (K : FVec F S1024x1024 .f32) (c : Dev nD) (E : Set ℕ) :
    ∀ n, n ≤ 1000 → ∀ v d Q, spec K n v d Q
      ⊢ wp frame (wpE (defs₀ (F := F)) 𝒱₀ (c : Thread nD τ) (some n)) E
          (defs₀ (F := F) .tc 1 ⟨K, wt, wt, ctr n, v, d⟩) Q := by
  intro n
  induction n with
  | zero =>
    intro _ v d Q
    rw [spec_apply]
    show _ ⊢ wp frame (wpE (defs₀ (F := F)) 𝒱₀ (c : Thread nD τ) (some 0)) E (cc0_while1 K wt wt (ctr 0) v d) Q
    simp only [cc0_while1_eq_skeleton]; unfold cc0_while1_skel
    simp only [ctr_zero_lt]
    rw [if_neg (by rcases bit_cases d with rfl | rfl <;> decide)]
    iintro H
    rw [Prog.pure_eq_ret, wp_ret]; imodintro
    rw [runFrom]
    iexact H
  | succ n ih =>
    intro hn v d Q
    rw [spec_apply]
    show _ ⊢ wp frame (wpE (defs₀ (F := F)) 𝒱₀ (c : Thread nD τ) (some (n + 1))) E (cc0_while1 K wt wt (ctr (n + 1)) v d) Q
    simp only [cc0_while1_eq_skeleton]; unfold cc0_while1_skel
    simp only [ctr_lt hn]
    rcases bit_cases d with rfl | rfl
    · rw [if_neg (by decide)]
      iintro H
      rw [Prog.pure_eq_ret, wp_ret]; imodintro
      rw [runFrom, if_pos rfl]
      iexact H
    · rw [if_pos (by decide)]
      simp only [Prog.lift, Prog.bind_op, Prog.bind_ret, Prog.pure_eq_ret, ctr_step hn]
      iintro H
      iapply (wp_call_spec 𝒱₀ (c : Thread nD τ) (some (n + 1)) E (spec K n (trip K v) (near K v)) n
        (fun u hu => by cases hu; exact Nat.lt_succ_self n) (ih (Nat.le_of_succ_le hn) (trip K v) (near K v)))
      rw [spec_apply]
      rw [wp_ret]; imodintro
      rw [runFrom, if_neg (by decide)]
      iexact H

/-! ## The body -/

/-- Buffer `b` held whole at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_eq_stg (c : Dev nD) (b : Ref sig .tc) (X : b.ty.Contents (Elt F)) :
    (owns (Ix := Unit) (Name := ℕ) (U := UR nD τ) (Lvl := ℕ) (c : Thread nD τ) (Memref.whole b) fullShare X : sProp 𝕄)
      = stg c b X := by
  unfold owns; simp only [Memref.view_whole, View.read_whole, View.set_whole]

/-- A buffer loaded whole reads its contents. -/
theorem zero1 : (![0] : Fin 1 → ℕ) = fun _ => 0 := by funext a; fin_cases a; rfl
theorem zero2 : (![0, 0] : Fin 2 → ℕ) = fun _ => 0 := by funext a; fin_cases a <;> rfl

/-- What the body is entered with. -/
def bodyPre (c : Dev nD) : sProp 𝕄 :=
  iprop(emp ∗ (dats m 0 c).owesAt () (t0_0).castSucc
    ∗ (∃ d, stg c cc0_stg0_0 ((dats m 0 c).before (0 : Fin 19) t0_0 d))
    ∗ (∃ d, stg c cc0_stg1_0 ((dats m 0 c).before (1 : Fin 19) t0_0 d))
    ∗ (∃ d, stg c cc0_stg2_0 ((dats m 0 c).before (2 : Fin 19) t0_0 d))
    ∗ (∃ d, stg c cc0_stg3_0 ((dats m 0 c).before (3 : Fin 19) t0_0 d))
    ∗ (∃ d, stg c cc0_stg4_0 ((dats m 0 c).before (4 : Fin 19) t0_0 d))
    ∗ (∃ d, stg c cc0_stg5_0 ((dats m 0 c).before (5 : Fin 19) t0_0 d))
    ∗ (∃ d, stg c cc0_stg6_0 ((dats m 0 c).before (6 : Fin 19) t0_0 d))
    ∗ (∃ d, stg c cc0_stg7_0 ((dats m 0 c).before (7 : Fin 19) t0_0 d))
    ∗ (∃ d, stg c cc0_stg8_0 ((dats m 0 c).before (8 : Fin 19) t0_0 d))
    ∗ (∃ d, stg c cc0_stg9_0 ((dats m 0 c).before (9 : Fin 19) t0_0 d))
    ∗ (∃ d, stg c cc0_stg10_0 ((dats m 0 c).before (10 : Fin 19) t0_0 d))
    ∗ (∃ d, stg c cc0_stg11_0 ((dats m 0 c).before (11 : Fin 19) t0_0 d))
    ∗ (∃ d, stg c cc0_stg12_0 ((dats m 0 c).before (12 : Fin 19) t0_0 d))
    ∗ (∃ d, stg c cc0_stg13_0 ((dats m 0 c).before (13 : Fin 19) t0_0 d))
    ∗ (∃ d, stg c cc0_stg14_0 ((dats m 0 c).before (14 : Fin 19) t0_0 d))
    ∗ (∃ d, stg c cc0_stg15_0 ((dats m 0 c).before (15 : Fin 19) t0_0 d))
    ∗ (∃ d, stg c cc0_stg16_0 ((dats m 0 c).before (16 : Fin 19) t0_0 d))
    ∗ (∃ d, stg c cc0_stg17_0 ((dats m 0 c).before (17 : Fin 19) t0_0 d))
    ∗ (∃ d, stg c cc0_stg18_0 ((dats m 0 c).before (18 : Fin 19) t0_0 d)))

/-- What it returns. -/
def bodyPost (c : Dev nD) : sProp 𝕄 :=
  iprop(emp ∗ (dats m 0 c).owesAt () (t0_0).succ
    ∗ stg c cc0_stg0_0 (inp0 m c)
    ∗ stg c cc0_stg1_0 (inp1 m c)
    ∗ stg c cc0_stg2_0 (inp2 m c)
    ∗ stg c cc0_stg3_0 (inp3 m c)
    ∗ stg c cc0_stg4_0 (inp4 m c)
    ∗ stg c cc0_stg5_0 (inp5 m c)
    ∗ stg c cc0_stg6_0 (inp6 m c)
    ∗ stg c cc0_stg7_0 (inp7 m c)
    ∗ stg c cc0_stg8_0 (inp8 m c)
    ∗ stg c cc0_stg9_0 (inp9 m c)
    ∗ stg c cc0_stg10_0 (inp10 m c)
    ∗ stg c cc0_stg11_0 (inp11 m c)
    ∗ stg c cc0_stg12_0 (inp12 m c)
    ∗ stg c cc0_stg13_0 (inp13 m c)
    ∗ stg c cc0_stg14_0 (inp14 m c)
    ∗ stg c cc0_stg15_0 (inp15 m c)
    ∗ stg c cc0_stg16_0 (inp16 m c)
    ∗ stg c cc0_stg17_0 (inp17 m c)
    ∗ stg c cc0_stg18_0 (outOf m c))

/-- Before the body each argument's staging buffer holds the argument: its window fetches it whole. -/
theorem before0 (c : Dev nD) (d) : (dats m 0 c).before (0 : Fin 19) t0_0 d = inp0 m c := by
  unfold Dat.before; refine (if_pos (fetch0_0 t0_0)).trans ?_
  show (win0_0.blk (t0_0)).view.read (Elt F) (m ((c : Thread nD τ).loc main_arg0)) = m ((c : Thread nD τ).loc main_arg0)
  exact Memref.read_access_unit_zero (Elt F) main_arg0
    (off := fun a => win0_0.index t0_0 a * main_arg0.ty.shape.size a) (funext fun a => by fin_cases a <;> rfl) _ _
theorem before1 (c : Dev nD) (d) : (dats m 0 c).before (1 : Fin 19) t0_0 d = inp1 m c := by
  unfold Dat.before; refine (if_pos (fetch0_1 t0_0)).trans ?_
  show (win0_1.blk (t0_0)).view.read (Elt F) (m ((c : Thread nD τ).loc main_arg1)) = m ((c : Thread nD τ).loc main_arg1)
  exact Memref.read_access_unit_zero (Elt F) main_arg1
    (off := fun a => win0_1.index t0_0 a * main_arg1.ty.shape.size a) (funext fun a => by fin_cases a <;> rfl) _ _
theorem before2 (c : Dev nD) (d) : (dats m 0 c).before (2 : Fin 19) t0_0 d = inp2 m c := by
  unfold Dat.before; refine (if_pos (fetch0_2 t0_0)).trans ?_
  show (win0_2.blk (t0_0)).view.read (Elt F) (m ((c : Thread nD τ).loc main_arg2)) = m ((c : Thread nD τ).loc main_arg2)
  exact Memref.read_access_unit_zero (Elt F) main_arg2
    (off := fun a => win0_2.index t0_0 a * main_arg2.ty.shape.size a) (funext fun a => by fin_cases a <;> rfl) _ _
theorem before3 (c : Dev nD) (d) : (dats m 0 c).before (3 : Fin 19) t0_0 d = inp3 m c := by
  unfold Dat.before; refine (if_pos (fetch0_3 t0_0)).trans ?_
  show (win0_3.blk (t0_0)).view.read (Elt F) (m ((c : Thread nD τ).loc main_arg3)) = m ((c : Thread nD τ).loc main_arg3)
  exact Memref.read_access_unit_zero (Elt F) main_arg3
    (off := fun a => win0_3.index t0_0 a * main_arg3.ty.shape.size a) (funext fun a => by fin_cases a <;> rfl) _ _
theorem before4 (c : Dev nD) (d) : (dats m 0 c).before (4 : Fin 19) t0_0 d = inp4 m c := by
  unfold Dat.before; refine (if_pos (fetch0_4 t0_0)).trans ?_
  show (win0_4.blk (t0_0)).view.read (Elt F) (m ((c : Thread nD τ).loc main_arg4)) = m ((c : Thread nD τ).loc main_arg4)
  exact Memref.read_access_unit_zero (Elt F) main_arg4
    (off := fun a => win0_4.index t0_0 a * main_arg4.ty.shape.size a) (funext fun a => by fin_cases a <;> rfl) _ _
theorem before5 (c : Dev nD) (d) : (dats m 0 c).before (5 : Fin 19) t0_0 d = inp5 m c := by
  unfold Dat.before; refine (if_pos (fetch0_5 t0_0)).trans ?_
  show (win0_5.blk (t0_0)).view.read (Elt F) (m ((c : Thread nD τ).loc main_arg5)) = m ((c : Thread nD τ).loc main_arg5)
  exact Memref.read_access_unit_zero (Elt F) main_arg5
    (off := fun a => win0_5.index t0_0 a * main_arg5.ty.shape.size a) (funext fun a => by fin_cases a <;> rfl) _ _
theorem before6 (c : Dev nD) (d) : (dats m 0 c).before (6 : Fin 19) t0_0 d = inp6 m c := by
  unfold Dat.before; refine (if_pos (fetch0_6 t0_0)).trans ?_
  show (win0_6.blk (t0_0)).view.read (Elt F) (m ((c : Thread nD τ).loc main_arg6)) = m ((c : Thread nD τ).loc main_arg6)
  exact Memref.read_access_unit_zero (Elt F) main_arg6
    (off := fun a => win0_6.index t0_0 a * main_arg6.ty.shape.size a) (funext fun a => by fin_cases a <;> rfl) _ _
theorem before7 (c : Dev nD) (d) : (dats m 0 c).before (7 : Fin 19) t0_0 d = inp7 m c := by
  unfold Dat.before; refine (if_pos (fetch0_7 t0_0)).trans ?_
  show (win0_7.blk (t0_0)).view.read (Elt F) (m ((c : Thread nD τ).loc main_arg7)) = m ((c : Thread nD τ).loc main_arg7)
  exact Memref.read_access_unit_zero (Elt F) main_arg7
    (off := fun a => win0_7.index t0_0 a * main_arg7.ty.shape.size a) (funext fun a => by fin_cases a <;> rfl) _ _
theorem before8 (c : Dev nD) (d) : (dats m 0 c).before (8 : Fin 19) t0_0 d = inp8 m c := by
  unfold Dat.before; refine (if_pos (fetch0_8 t0_0)).trans ?_
  show (win0_8.blk (t0_0)).view.read (Elt F) (m ((c : Thread nD τ).loc main_arg8)) = m ((c : Thread nD τ).loc main_arg8)
  exact Memref.read_access_unit_zero (Elt F) main_arg8
    (off := fun a => win0_8.index t0_0 a * main_arg8.ty.shape.size a) (funext fun a => by fin_cases a <;> rfl) _ _
theorem before9 (c : Dev nD) (d) : (dats m 0 c).before (9 : Fin 19) t0_0 d = inp9 m c := by
  unfold Dat.before; refine (if_pos (fetch0_9 t0_0)).trans ?_
  show (win0_9.blk (t0_0)).view.read (Elt F) (m ((c : Thread nD τ).loc main_arg9)) = m ((c : Thread nD τ).loc main_arg9)
  exact Memref.read_access_unit_zero (Elt F) main_arg9
    (off := fun a => win0_9.index t0_0 a * main_arg9.ty.shape.size a) (funext fun a => by fin_cases a <;> rfl) _ _
theorem before10 (c : Dev nD) (d) : (dats m 0 c).before (10 : Fin 19) t0_0 d = inp10 m c := by
  unfold Dat.before; refine (if_pos (fetch0_10 t0_0)).trans ?_
  show (win0_10.blk (t0_0)).view.read (Elt F) (m ((c : Thread nD τ).loc main_arg10)) = m ((c : Thread nD τ).loc main_arg10)
  exact Memref.read_access_unit_zero (Elt F) main_arg10
    (off := fun a => win0_10.index t0_0 a * main_arg10.ty.shape.size a) (funext fun a => by fin_cases a <;> rfl) _ _
theorem before11 (c : Dev nD) (d) : (dats m 0 c).before (11 : Fin 19) t0_0 d = inp11 m c := by
  unfold Dat.before; refine (if_pos (fetch0_11 t0_0)).trans ?_
  show (win0_11.blk (t0_0)).view.read (Elt F) (m ((c : Thread nD τ).loc main_arg11)) = m ((c : Thread nD τ).loc main_arg11)
  exact Memref.read_access_unit_zero (Elt F) main_arg11
    (off := fun a => win0_11.index t0_0 a * main_arg11.ty.shape.size a) (funext fun a => by fin_cases a <;> rfl) _ _
theorem before12 (c : Dev nD) (d) : (dats m 0 c).before (12 : Fin 19) t0_0 d = inp12 m c := by
  unfold Dat.before; refine (if_pos (fetch0_12 t0_0)).trans ?_
  show (win0_12.blk (t0_0)).view.read (Elt F) (m ((c : Thread nD τ).loc main_arg12)) = m ((c : Thread nD τ).loc main_arg12)
  exact Memref.read_access_unit_zero (Elt F) main_arg12
    (off := fun a => win0_12.index t0_0 a * main_arg12.ty.shape.size a) (funext fun a => by fin_cases a <;> rfl) _ _
theorem before13 (c : Dev nD) (d) : (dats m 0 c).before (13 : Fin 19) t0_0 d = inp13 m c := by
  unfold Dat.before; refine (if_pos (fetch0_13 t0_0)).trans ?_
  show (win0_13.blk (t0_0)).view.read (Elt F) (m ((c : Thread nD τ).loc main_arg13)) = m ((c : Thread nD τ).loc main_arg13)
  exact Memref.read_access_unit_zero (Elt F) main_arg13
    (off := fun a => win0_13.index t0_0 a * main_arg13.ty.shape.size a) (funext fun a => by fin_cases a <;> rfl) _ _
theorem before14 (c : Dev nD) (d) : (dats m 0 c).before (14 : Fin 19) t0_0 d = inp14 m c := by
  unfold Dat.before; refine (if_pos (fetch0_14 t0_0)).trans ?_
  show (win0_14.blk (t0_0)).view.read (Elt F) (m ((c : Thread nD τ).loc main_arg14)) = m ((c : Thread nD τ).loc main_arg14)
  exact Memref.read_access_unit_zero (Elt F) main_arg14
    (off := fun a => win0_14.index t0_0 a * main_arg14.ty.shape.size a) (funext fun a => by fin_cases a <;> rfl) _ _
theorem before15 (c : Dev nD) (d) : (dats m 0 c).before (15 : Fin 19) t0_0 d = inp15 m c := by
  unfold Dat.before; refine (if_pos (fetch0_15 t0_0)).trans ?_
  show (win0_15.blk (t0_0)).view.read (Elt F) (m ((c : Thread nD τ).loc main_arg15)) = m ((c : Thread nD τ).loc main_arg15)
  exact Memref.read_access_unit_zero (Elt F) main_arg15
    (off := fun a => win0_15.index t0_0 a * main_arg15.ty.shape.size a) (funext fun a => by fin_cases a <;> rfl) _ _
theorem before16 (c : Dev nD) (d) : (dats m 0 c).before (16 : Fin 19) t0_0 d = inp16 m c := by
  unfold Dat.before; refine (if_pos (fetch0_16 t0_0)).trans ?_
  show (win0_16.blk (t0_0)).view.read (Elt F) (m ((c : Thread nD τ).loc main_arg16)) = m ((c : Thread nD τ).loc main_arg16)
  exact Memref.read_access_unit_zero (Elt F) main_arg16
    (off := fun a => win0_16.index t0_0 a * main_arg16.ty.shape.size a) (funext fun a => by fin_cases a <;> rfl) _ _
theorem before17 (c : Dev nD) (d) : (dats m 0 c).before (17 : Fin 19) t0_0 d = inp17 m c := by
  unfold Dat.before; refine (if_pos (fetch0_17 t0_0)).trans ?_
  show (win0_17.blk (t0_0)).view.read (Elt F) (m ((c : Thread nD τ).loc main_arg17)) = m ((c : Thread nD τ).loc main_arg17)
  exact Memref.read_access_unit_zero (Elt F) main_arg17
    (off := fun a => win0_17.index t0_0 a * main_arg17.ty.shape.size a) (funext fun a => by fin_cases a <;> rfl) _ _
/-- A load of a whole argument reads the argument. -/
theorem read0 (f : Vec F S1024x128 .f32) : (Memref.whole cc0_stg0_0 : Memref sig .tc _ _ _).view.readAt (Elt F)
    (Rect.unit (s := S1024x128) ![0, 0] ![1024, 128] inb_S1024x128_S1024x128_0_0).toLoadRect f = f :=
  Memref.readAt_unit_zero (Elt F) cc0_stg0_0 zero2 _ f
theorem read1 (f : Vec F S1024x64 .f32) : (Memref.whole cc0_stg1_0 : Memref sig .tc _ _ _).view.readAt (Elt F)
    (Rect.unit (s := S1024x64) ![0, 0] ![1024, 64] inb_S1024x64_S1024x64_0_0).toLoadRect f = f :=
  Memref.readAt_unit_zero (Elt F) cc0_stg1_0 zero2 _ f
theorem read2 (f : Vec F S128x256 .f32) : (Memref.whole cc0_stg2_0 : Memref sig .tc _ _ _).view.readAt (Elt F)
    (Rect.unit (s := S128x256) ![0, 0] ![128, 256] inb_S128x256_S128x256_0_0).toLoadRect f = f :=
  Memref.readAt_unit_zero (Elt F) cc0_stg2_0 zero2 _ f
theorem read3 (f : Vec F S256 .f32) : (Memref.whole cc0_stg3_0 : Memref sig .tc _ _ _).view.readAt (Elt F)
    (Rect.unit (s := S256) ![0] ![256] inb_S256_S256_0).toLoadRect f = f :=
  Memref.readAt_unit_zero (Elt F) cc0_stg3_0 zero1 _ f
theorem read4 (f : Vec F S256x512 .f32) : (Memref.whole cc0_stg4_0 : Memref sig .tc _ _ _).view.readAt (Elt F)
    (Rect.unit (s := S256x512) ![0, 0] ![256, 512] inb_S256x512_S256x512_0_0).toLoadRect f = f :=
  Memref.readAt_unit_zero (Elt F) cc0_stg4_0 zero2 _ f
theorem read5 (f : Vec F S512 .f32) : (Memref.whole cc0_stg5_0 : Memref sig .tc _ _ _).view.readAt (Elt F)
    (Rect.unit (s := S512) ![0] ![512] inb_S512_S512_0).toLoadRect f = f :=
  Memref.readAt_unit_zero (Elt F) cc0_stg5_0 zero1 _ f
theorem read6 (f : Vec F S512x256 .f32) : (Memref.whole cc0_stg6_0 : Memref sig .tc _ _ _).view.readAt (Elt F)
    (Rect.unit (s := S512x256) ![0, 0] ![512, 256] inb_S512x256_S512x256_0_0).toLoadRect f = f :=
  Memref.readAt_unit_zero (Elt F) cc0_stg6_0 zero2 _ f
theorem read7 (f : Vec F S256 .f32) : (Memref.whole cc0_stg7_0 : Memref sig .tc _ _ _).view.readAt (Elt F)
    (Rect.unit (s := S256) ![0] ![256] inb_S256_S256_0).toLoadRect f = f :=
  Memref.readAt_unit_zero (Elt F) cc0_stg7_0 zero1 _ f
theorem read8 (f : Vec F S256x64 .f32) : (Memref.whole cc0_stg8_0 : Memref sig .tc _ _ _).view.readAt (Elt F)
    (Rect.unit (s := S256x64) ![0, 0] ![256, 64] inb_S256x64_S256x64_0_0).toLoadRect f = f :=
  Memref.readAt_unit_zero (Elt F) cc0_stg8_0 zero2 _ f
theorem read9 (f : Vec F S64 .f32) : (Memref.whole cc0_stg9_0 : Memref sig .tc _ _ _).view.readAt (Elt F)
    (Rect.unit (s := S64) ![0] ![64] inb_S64_S64_0).toLoadRect f = f :=
  Memref.readAt_unit_zero (Elt F) cc0_stg9_0 zero1 _ f
theorem read10 (f : Vec F S64x256 .f32) : (Memref.whole cc0_stg10_0 : Memref sig .tc _ _ _).view.readAt (Elt F)
    (Rect.unit (s := S64x256) ![0, 0] ![64, 256] inb_S64x256_S64x256_0_0).toLoadRect f = f :=
  Memref.readAt_unit_zero (Elt F) cc0_stg10_0 zero2 _ f
theorem read11 (f : Vec F S256 .f32) : (Memref.whole cc0_stg11_0 : Memref sig .tc _ _ _).view.readAt (Elt F)
    (Rect.unit (s := S256) ![0] ![256] inb_S256_S256_0).toLoadRect f = f :=
  Memref.readAt_unit_zero (Elt F) cc0_stg11_0 zero1 _ f
theorem read12 (f : Vec F S256x512 .f32) : (Memref.whole cc0_stg12_0 : Memref sig .tc _ _ _).view.readAt (Elt F)
    (Rect.unit (s := S256x512) ![0, 0] ![256, 512] inb_S256x512_S256x512_0_0).toLoadRect f = f :=
  Memref.readAt_unit_zero (Elt F) cc0_stg12_0 zero2 _ f
theorem read13 (f : Vec F S512 .f32) : (Memref.whole cc0_stg13_0 : Memref sig .tc _ _ _).view.readAt (Elt F)
    (Rect.unit (s := S512) ![0] ![512] inb_S512_S512_0).toLoadRect f = f :=
  Memref.readAt_unit_zero (Elt F) cc0_stg13_0 zero1 _ f
theorem read14 (f : Vec F S512x256 .f32) : (Memref.whole cc0_stg14_0 : Memref sig .tc _ _ _).view.readAt (Elt F)
    (Rect.unit (s := S512x256) ![0, 0] ![512, 256] inb_S512x256_S512x256_0_0).toLoadRect f = f :=
  Memref.readAt_unit_zero (Elt F) cc0_stg14_0 zero2 _ f
theorem read15 (f : Vec F S256 .f32) : (Memref.whole cc0_stg15_0 : Memref sig .tc _ _ _).view.readAt (Elt F)
    (Rect.unit (s := S256) ![0] ![256] inb_S256_S256_0).toLoadRect f = f :=
  Memref.readAt_unit_zero (Elt F) cc0_stg15_0 zero1 _ f
theorem read16 (f : Vec F S256x128 .f32) : (Memref.whole cc0_stg16_0 : Memref sig .tc _ _ _).view.readAt (Elt F)
    (Rect.unit (s := S256x128) ![0, 0] ![256, 128] inb_S256x128_S256x128_0_0).toLoadRect f = f :=
  Memref.readAt_unit_zero (Elt F) cc0_stg16_0 zero2 _ f
theorem read17 (f : Vec F S128 .f32) : (Memref.whole cc0_stg17_0 : Memref sig .tc _ _ _).view.readAt (Elt F)
    (Rect.unit (s := S128) ![0] ![128] inb_S128_S128_0).toLoadRect f = f :=
  Memref.readAt_unit_zero (Elt F) cc0_stg17_0 zero1 _ f

/-- A store over the whole result leaves what is stored. -/
theorem write18 (f w : Vec F S1024x128 .f32) : ((Memref.whole cc0_stg18_0).access
    (Rect.unit (s := S1024x128) ![0, 0] ![1024, 128] inb_S1024x128_S1024x128_0_0) : View sig .tc _ _ _).write (Elt F) f w Finset.univ = w :=
  Memref.write_access_unit_zero_univ (Elt F) cc0_stg18_0 zero2 _ f w

set_option maxHeartbeats 4000000 in
/-- The body from what it is entered with to what it returns. -/
theorem sound_body (c : Dev nD) (Q : PUnit → sProp 𝕄) :
    iprop(bodyPre m c ∗ (bodyPost m c -∗ Q ⟨⟩))
      ⊢ wp frame (wpE (defs₀ (F := F)) 𝒱₀ c none) Set.univ
          (cc0__novae_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) (Memref.whole cc0_stg16_0) (Memref.isWhole_whole _) (Memref.whole cc0_stg17_0) (Memref.isWhole_whole _) (Memref.whole cc0_stg18_0) (Memref.isWhole_whole _)) Q := by
  simp only [cc0__novae_body_eq_skeleton]; unfold cc0__novae_body_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  unfold bodyPre
  iintro ⟨⟨-, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩⟩, Hk⟩
  rw [before0] at h0; subst h0
  rw [before1] at h1; subst h1
  rw [before2] at h2; subst h2
  rw [before3] at h3; subst h3
  rw [before4] at h4; subst h4
  rw [before5] at h5; subst h5
  rw [before6] at h6; subst h6
  rw [before7] at h7; subst h7
  rw [before8] at h8; subst h8
  rw [before9] at h9; subst h9
  rw [before10] at h10; subst h10
  rw [before11] at h11; subst h11
  rw [before12] at h12; subst h12
  rw [before13] at h13; subst h13
  rw [before14] at h14; subst h14
  rw [before15] at h15; subst h15
  rw [before16] at h16; subst h16
  rw [before17] at h17; subst h17
  iapply (wp_load 𝒱₀ (c : Thread nD τ) none Set.univ (m := Memref.whole cc0_stg0_0) (Finset.subset_univ _)) $$ H0; iintro H0
  rw [read0]
  iapply (wp_load 𝒱₀ (c : Thread nD τ) none Set.univ (m := Memref.whole cc0_stg2_0) (Finset.subset_univ _)) $$ H2; iintro H2
  rw [read2]
  iapply (wp_load 𝒱₀ (c : Thread nD τ) none Set.univ (m := Memref.whole cc0_stg3_0) (Finset.subset_univ _)) $$ H3; iintro H3
  rw [read3]
  iapply (wp_load 𝒱₀ (c : Thread nD τ) none Set.univ (m := Memref.whole cc0_stg4_0) (Finset.subset_univ _)) $$ H4; iintro H4
  rw [read4]
  iapply (wp_load 𝒱₀ (c : Thread nD τ) none Set.univ (m := Memref.whole cc0_stg5_0) (Finset.subset_univ _)) $$ H5; iintro H5
  rw [read5]
  iapply (wp_load 𝒱₀ (c : Thread nD τ) none Set.univ (m := Memref.whole cc0_stg6_0) (Finset.subset_univ _)) $$ H6; iintro H6
  rw [read6]
  iapply (wp_load 𝒱₀ (c : Thread nD τ) none Set.univ (m := Memref.whole cc0_stg7_0) (Finset.subset_univ _)) $$ H7; iintro H7
  rw [read7]
  iapply (wp_load 𝒱₀ (c : Thread nD τ) none Set.univ (m := Memref.whole cc0_stg8_0) (Finset.subset_univ _)) $$ H8; iintro H8
  rw [read8]
  iapply (wp_load 𝒱₀ (c : Thread nD τ) none Set.univ (m := Memref.whole cc0_stg9_0) (Finset.subset_univ _)) $$ H9; iintro H9
  rw [read9]
  iapply (wp_load 𝒱₀ (c : Thread nD τ) none Set.univ (m := Memref.whole cc0_stg1_0) (Finset.subset_univ _)) $$ H1; iintro H1
  rw [read1]
  have h := spec_le (F := F) (gibbs (inp0 m c) (inp1 m c) (inp2 m c) (inp3 m c) (inp4 m c) (inp5 m c) (inp6 m c) (inp7 m c) (inp8 m c) (inp9 m c)) c Set.univ 998 (by decide) (vTwo (inp0 m c) (inp1 m c) (inp2 m c) (inp3 m c) (inp4 m c) (inp5 m c) (inp6 m c) (inp7 m c) (inp8 m c) (inp9 m c)) 0#1
  iapply (wp_call_spec 𝒱₀ (c : Thread nD τ) none Set.univ (spec (gibbs (inp0 m c) (inp1 m c) (inp2 m c) (inp3 m c) (inp4 m c) (inp5 m c) (inp6 m c) (inp7 m c) (inp8 m c) (inp9 m c)) 998 (vTwo (inp0 m c) (inp1 m c) (inp2 m c) (inp3 m c) (inp4 m c) (inp5 m c) (inp6 m c) (inp7 m c) (inp8 m c) (inp9 m c)) 0#1) 998 (fun u hu => nomatch hu) h)
  rw [spec_apply]
  iapply (wp_load 𝒱₀ (c : Thread nD τ) none Set.univ (m := Memref.whole cc0_stg10_0) (Finset.subset_univ _)) $$ H10; iintro H10
  rw [read10]
  iapply (wp_load 𝒱₀ (c : Thread nD τ) none Set.univ (m := Memref.whole cc0_stg11_0) (Finset.subset_univ _)) $$ H11; iintro H11
  rw [read11]
  iapply (wp_load 𝒱₀ (c : Thread nD τ) none Set.univ (m := Memref.whole cc0_stg12_0) (Finset.subset_univ _)) $$ H12; iintro H12
  rw [read12]
  iapply (wp_load 𝒱₀ (c : Thread nD τ) none Set.univ (m := Memref.whole cc0_stg13_0) (Finset.subset_univ _)) $$ H13; iintro H13
  rw [read13]
  iapply (wp_load 𝒱₀ (c : Thread nD τ) none Set.univ (m := Memref.whole cc0_stg14_0) (Finset.subset_univ _)) $$ H14; iintro H14
  rw [read14]
  iapply (wp_load 𝒱₀ (c : Thread nD τ) none Set.univ (m := Memref.whole cc0_stg15_0) (Finset.subset_univ _)) $$ H15; iintro H15
  rw [read15]
  iapply (wp_load 𝒱₀ (c : Thread nD τ) none Set.univ (m := Memref.whole cc0_stg16_0) (Finset.subset_univ _)) $$ H16; iintro H16
  rw [read16]
  iapply (wp_load 𝒱₀ (c : Thread nD τ) none Set.univ (m := Memref.whole cc0_stg17_0) (Finset.subset_univ _)) $$ H17; iintro H17
  rw [read17]
  iapply (wp_load 𝒱₀ (c : Thread nD τ) none Set.univ (m := Memref.whole cc0_stg18_0) (Finset.subset_univ _)) $$ H18; iintro H18
  iapply (wp_store 𝒱₀ (c : Thread nD τ) none Set.univ (m := Memref.whole cc0_stg18_0) (r := Rect.unit (s := S1024x128) ![0, 0] ![1024, 128] inb_S1024x128_S1024x128_0_0) (Mk := Finset.univ) (Finset.subset_univ _)) $$ H18; iintro H18
  rw [write18]
  rw [wp_ret]; imodintro
  iapply Hk
  unfold bodyPost
  rw [show (dats m 0 c).owesAt () (t0_0).succ = (dats m 0 c).owesAt () (t0_0).castSucc from rfl]
  isplitr; · iempintro
  isplitl [Ho]; · iexact Ho
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  isplitl [H7]
  · iexists _; isplitr; · (ipureintro; rfl)
    iexact H7
  isplitl [H8]
  · iexists _; isplitr; · (ipureintro; rfl)
    iexact H8
  isplitl [H9]
  · iexists _; isplitr; · (ipureintro; rfl)
    iexact H9
  isplitl [H10]
  · iexists _; isplitr; · (ipureintro; rfl)
    iexact H10
  isplitl [H11]
  · iexists _; isplitr; · (ipureintro; rfl)
    iexact H11
  isplitl [H12]
  · iexists _; isplitr; · (ipureintro; rfl)
    iexact H12
  isplitl [H13]
  · iexists _; isplitr; · (ipureintro; rfl)
    iexact H13
  isplitl [H14]
  · iexists _; isplitr; · (ipureintro; rfl)
    iexact H14
  isplitl [H15]
  · iexists _; isplitr; · (ipureintro; rfl)
    iexact H15
  isplitl [H16]
  · iexists _; isplitr; · (ipureintro; rfl)
    iexact H16
  isplitl [H17]
  · iexists _; isplitr; · (ipureintro; rfl)
    iexact H17
  iexists _; isplitr
  swap; · iexact H18
  ipureintro; rfl

theorem body_obligation (c : Dev nD) :
    BodyObligation (dats (F := F) m 0 c) (defs₀ (F := F)) 𝒱₀ () Set.univ := fun t => by
  rw [fin_N0 t]
  rw [bigSep_W0, bigSep_W0]
  simp only [owns_eq_stg]
  show bodyPre m c ⊢ wp frame (wpE (defs₀ (F := F)) 𝒱₀ c none) Set.univ
    (cc0__novae_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) (Memref.whole cc0_stg16_0) (Memref.isWhole_whole _) (Memref.whole cc0_stg17_0) (Memref.isWhole_whole _) (Memref.whole cc0_stg18_0) (Memref.isWhole_whole _)) (fun _ => bodyPost m c)
  iintro H
  iapply (sound_body m c fun _ => bodyPost m c)
  isplitl [H]; · iexact H
  iintro H; iexact H

/-! ## The run -/

/-- The launch element: every staging cell at its first round, with the duties the pipeline's transfers discharge. -/
def u₀ : UR nD τ := initOf (Pipeline.cells (cfgs (F := F)) cellOf_inj) (Pipeline.launchToks (cfgs (F := F)) cellOf_inj)

theorem share_eq (c : Dev nD) (w : Fin (cfg0 (F := F)).W) : (dats m 0 c).share w = fullShare := by
  unfold Dat.share; split <;> rfl

/-- What array `w` holds at the end. -/
def finalA (c : Dev nD) (w : Fin (cfg0 (F := F)).W) : Buf (Elt F) (((cfg0 (F := F)).win w).arr.view.loc (c : Thread nD τ)) :=
  (dats m 0 c).arrAt w (cfg0 (F := F)).N

/-- Every weakly fair execution terminates, with every array at `finalA` and every semaphore at zero. -/
theorem run_arrays : θ_run defs (onTc (τ := τ) (main (F := F))) (s₀ m ρ) (fun r =>
    (∀ (c : Dev nD) (w : Fin (cfg0 (F := F)).W), r.2.mem (((cfg0 (F := F)).win w).arr.view.loc (c : Thread nD τ)) = finalA m c w)
      ∧ r.2.sem = fun _ => 0) :=
  Pipeline.θ_run_region_noSem_kit_quiescent cfgs (dats m) () (0 : Fin 1) launch0 EP defs₀ 𝒱₀ m ρ main
    (hbody := body_obligation m) (hshare := share_eq m) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun c => by rw [scopedRest0_eq]; iintro -; iempintro)
    (hout := fun c => by rw [scopedRest0_eq]; iintro -; isplitr <;> iempintro)
    (QY := fun _ _ => True)
    (hY := fun c s' => by
      iintro ⟨-, -, H⟩; imodintro
      isplitr; · ipureintro; trivial
      iexact H)
    (hQ := fun _ h hz => ⟨fun c w => (h c).1 w, hz⟩)

/-- An argument's array ends as it was. -/
theorem finalA_in (c : Dev nD) (w : Fin 19) (hw : ((cfg0 (F := F)).win w).isOut = false) :
    finalA m c w = m (((cfg0 (F := F)).win w).arr.view.loc (c : Thread nD τ)) :=
  (dats (F := F) m 0 c).arrAt_in w hw _

/-- The result's array ends at `outOf`. -/
theorem finalA_out (c : Dev nD) : finalA m c (18 : Fin 19) = outOf m c := by
  unfold finalA
  rw [show (cfg0 (F := F)).N = (t0_0).val + 1 from N_0, (dats m 0 c).arrAt_succ (18 : Fin 19) t0_0]
  refine (if_pos (flush0_18 t0_0)).trans ?_
  exact Memref.write_access_unit_zero_univ (Elt F) main_v0
    (off := fun a => win0_18.index t0_0 a * main_v0.ty.shape.size a) (funext fun a => by fin_cases a <;> rfl) _ _ _

/-- Every weakly fair execution terminates with the result at `outOf`, the arguments unchanged, every semaphore at zero. -/
theorem run_main : θ_run defs (onTc (τ := τ) (main (F := F))) ⟨m, fun _ => 0, ρ⟩ (fun r =>
    (∀ c : Dev nD, r.2.mem ((c : Thread nD τ).loc main_v0) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17))
    ∧ r.2.sem = fun _ => 0) := by
  refine (θ_run defs _ _).mono ?_ (run_arrays m ρ)
  intro r h
  refine ⟨fun c => ⟨(h.1 c (18 : Fin 19)).trans (finalA_out m c),
    (h.1 c (0 : Fin 19)).trans (finalA_in m c 0 rfl),
    (h.1 c (1 : Fin 19)).trans (finalA_in m c 1 rfl),
    (h.1 c (2 : Fin 19)).trans (finalA_in m c 2 rfl),
    (h.1 c (3 : Fin 19)).trans (finalA_in m c 3 rfl),
    (h.1 c (4 : Fin 19)).trans (finalA_in m c 4 rfl),
    (h.1 c (5 : Fin 19)).trans (finalA_in m c 5 rfl),
    (h.1 c (6 : Fin 19)).trans (finalA_in m c 6 rfl),
    (h.1 c (7 : Fin 19)).trans (finalA_in m c 7 rfl),
    (h.1 c (8 : Fin 19)).trans (finalA_in m c 8 rfl),
    (h.1 c (9 : Fin 19)).trans (finalA_in m c 9 rfl),
    (h.1 c (10 : Fin 19)).trans (finalA_in m c 10 rfl),
    (h.1 c (11 : Fin 19)).trans (finalA_in m c 11 rfl),
    (h.1 c (12 : Fin 19)).trans (finalA_in m c 12 rfl),
    (h.1 c (13 : Fin 19)).trans (finalA_in m c 13 rfl),
    (h.1 c (14 : Fin 19)).trans (finalA_in m c 14 rfl),
    (h.1 c (15 : Fin 19)).trans (finalA_in m c 15 rfl),
    (h.1 c (16 : Fin 19)).trans (finalA_in m c 16 rfl),
    (h.1 c (17 : Fin 19)).trans (finalA_in m c 17 rfl)⟩, h.2⟩

end Cert.Proof.KI

end
-- ==== Proof.RI.Value.lean ====
/-
  What the reference `ReferenceIdeal` computes, as functions of its arguments, for any float operations: the two multi-layer
  perceptrons, the matrix of the normalised cost, one step of Sinkhorn's iteration, the thousand steps, and the result.
-/
module

public import proofs.«01_k».proof.ReferenceIdeal
public import proofs.«01_k».proof.Proof.Gen.ReferenceIdeal

@[expose] public section

noncomputable section

namespace Cert.Proof.RI

open Cert.ReferenceIdeal Cert.ReferenceIdeal.Gen
open Idealize.ShloMosaic Idealize.ShloMosaic.TcCoe

variable {F : FTy → Type} [FloatOps F]

/-- The encoder: four layers, the maximum with zero after each of the first three. -/
def enc (x0 : FVec F S1024x128 .f32) (x2 : FVec F S128x256 .f32) (x3 : FVec F S256 .f32) (x4 : FVec F S256x512 .f32) (x5 : FVec F S512 .f32)
    (x6 : FVec F S512x256 .f32) (x7 : FVec F S256 .f32) (x8 : FVec F S256x64 .f32) (x9 : FVec F S64 .f32) : FVec F S1024x64 .f32 :=
  let h0 := maximumf (addf (Host.dotGeneral dot_S1024x128_S128x256_S1024x256_1_0_0_1_n_n none x0 x2) (broadcastInDim S1024x256 ![0, 1] bcast_S1x256_S1024x256_0_1 (broadcastInDim S1x256 ![1] bcast_S256_S1x256_1 x3))) (broadcastInDim S1024x256 ![] bcast_S_S1024x256 (constant S_ .f32 0x00000000#32))
  let h1 := maximumf (addf (Host.dotGeneral dot_S1024x256_S256x512_S1024x512_1_0_0_1_n_n none h0 x4) (broadcastInDim S1024x512 ![0, 1] bcast_S1x512_S1024x512_0_1 (broadcastInDim S1x512 ![1] bcast_S512_S1x512_1 x5))) (broadcastInDim S1024x512 ![] bcast_S_S1024x512 (constant S_ .f32 0x00000000#32))
  let h2 := maximumf (addf (Host.dotGeneral dot_S1024x512_S512x256_S1024x256_1_0_0_1_n_n none h1 x6) (broadcastInDim S1024x256 ![0, 1] bcast_S1x256_S1024x256_0_1 (broadcastInDim S1x256 ![1] bcast_S256_S1x256_1 x7))) (broadcastInDim S1024x256 ![] bcast_S_S1024x256 (constant S_ .f32 0x00000000#32))
  addf (Host.dotGeneral dot_S1024x256_S256x64_S1024x64_1_0_0_1_n_n none h2 x8) (broadcastInDim S1024x64 ![0, 1] bcast_S1x64_S1024x64_0_1 (broadcastInDim S1x64 ![1] bcast_S64_S1x64_1 x9))

/-- The decoder: four layers, the maximum with zero after each of the first three. -/
def dec (z : FVec F S1024x64 .f32) (x10 : FVec F S64x256 .f32) (x11 : FVec F S256 .f32) (x12 : FVec F S256x512 .f32) (x13 : FVec F S512 .f32)
    (x14 : FVec F S512x256 .f32) (x15 : FVec F S256 .f32) (x16 : FVec F S256x128 .f32) (x17 : FVec F S128 .f32) : FVec F S1024x128 .f32 :=
  let h0 := maximumf (addf (Host.dotGeneral dot_S1024x64_S64x256_S1024x256_1_0_0_1_n_n none z x10) (broadcastInDim S1024x256 ![0, 1] bcast_S1x256_S1024x256_0_1 (broadcastInDim S1x256 ![1] bcast_S256_S1x256_1 x11))) (broadcastInDim S1024x256 ![] bcast_S_S1024x256 (constant S_ .f32 0x00000000#32))
  let h1 := maximumf (addf (Host.dotGeneral dot_S1024x256_S256x512_S1024x512_1_0_0_1_n_n none h0 x12) (broadcastInDim S1024x512 ![0, 1] bcast_S1x512_S1024x512_0_1 (broadcastInDim S1x512 ![1] bcast_S512_S1x512_1 x13))) (broadcastInDim S1024x512 ![] bcast_S_S1024x512 (constant S_ .f32 0x00000000#32))
  let h2 := maximumf (addf (Host.dotGeneral dot_S1024x512_S512x256_S1024x256_1_0_0_1_n_n none h1 x14) (broadcastInDim S1024x256 ![0, 1] bcast_S1x256_S1024x256_0_1 (broadcastInDim S1x256 ![1] bcast_S256_S1x256_1 x15))) (broadcastInDim S1024x256 ![] bcast_S_S1024x256 (constant S_ .f32 0x00000000#32))
  addf (Host.dotGeneral dot_S1024x256_S256x128_S1024x128_1_0_0_1_n_n none h2 x16) (broadcastInDim S1024x128 ![0, 1] bcast_S1x128_S1024x128_0_1 (broadcastInDim S1x128 ![1] bcast_S128_S1x128_1 x17))

/-- The squared distances of the rows of `z` from the rows of `p`. -/
def sqDist (z p : FVec F S1024x64 .f32) : FVec F S1024x1024 .f32 :=
  subf
    (addf
      (broadcastInDim S1024x1024 ![0, 1] bcast_S1024x1_S1024x1024_0_1 (broadcastInDim S1024x1 ![0] bcast_S1024_S1024x1_0
        (Host.reduceAdd (mulf z z) (constant S_ .f32 0x00000000#32) reducesTo_S1024x64_S1024_d1 h_S_)))
      (broadcastInDim S1024x1024 ![0, 1] bcast_S1x1024_S1024x1024_0_1 (broadcastInDim S1x1024 ![1] bcast_S1024_S1x1024_1
        (Host.reduceAdd (mulf p p) (constant S_ .f32 0x00000000#32) reducesTo_S1024x64_S1024_d1 h_S_))))
    (mulf (broadcastInDim S1024x1024 ![] bcast_S_S1024x1024 (constant S_ .f32 0x40000000#32))
      (Host.dotGeneral dot_S1024x64_S64x1024_S1024x1024_1_0_0_1_n_n none z (transpose S64x1024 [1, 0] p transposes_S1024x64_S64x1024_1_0)))

/-- The cost: the squared distances, none below zero. -/
def cost (z p : FVec F S1024x64 .f32) : FVec F S1024x1024 .f32 :=
  maximumf (sqDist z p) (broadcastInDim S1024x1024 ![] bcast_S_S1024x1024 (constant S_ .f32 0x00000000#32))

/-- The greatest entry of a cost. -/
def greatest (C : FVec F S1024x1024 .f32) : FVec F S_ .f32 :=
  Host.reduce FloatOps.maximumf C (constant S_ .f32 0xFF800000#32) reducesTo_S1024x1024_S_d0_1 h_S_

/-- The matrix `exp (-M / reg)` of a cost `C`, `M` being the cost over the number `r`. -/
def gibbsOver (C : FVec F S1024x1024 .f32) (r : FVec F S_ .f32) : FVec F S1024x1024 .f32 :=
  Host.exp (Host.divf (Host.negf (Host.divf C (broadcastInDim S1024x1024 ![] bcast_S_S1024x1024 (addf r (constant S_ .f32 0x2B8CBCCC#32)))))
    (broadcastInDim S1024x1024 ![] bcast_S_S1024x1024 (constant S_ .f32 0x3D4CCCCD#32)))

/-- The matrix of a cost over its greatest entry. -/
def gibbs (C : FVec F S1024x1024 .f32) : FVec F S1024x1024 .f32 := gibbsOver C (greatest C)

/-- The weight of every row and of every column. -/
def weights : FVec F S1024 .f32 :=
  Host.divf (broadcastInDim S1024 ![] bcast_S_S1024 (constant S_ .f32 0x3F800000#32)) (broadcastInDim S1024 ![] bcast_S_S1024 (constant S_ .f32 0x44800000#32))

/-- The row scaling from a column scaling. -/
def rowScale (K : FVec F S1024x1024 .f32) (a v : FVec F S1024 .f32) : FVec F S1024 .f32 :=
  Host.divf a (addf (Host.dotGeneral dot_S1024x1024_S1024_S1024_1_0_0_n_n_n none K v) (broadcastInDim S1024 ![] bcast_S_S1024 (constant S_ .f32 0x24E69595#32)))

/-- The column scaling from a row scaling. -/
def colScale (K : FVec F S1024x1024 .f32) (b u : FVec F S1024 .f32) : FVec F S1024 .f32 :=
  Host.divf b (addf (Host.dotGeneral dot_S1024x1024_S1024_S1024_1_0_0_n_n_n none (transpose S1024x1024 [1, 0] K transposes_S1024x1024_S1024x1024_1_0) u)
    (broadcastInDim S1024 ![] bcast_S_S1024 (constant S_ .f32 0x24E69595#32)))

/-- One step of the iteration on the column scaling. -/
def newCol (K : FVec F S1024x1024 .f32) (a b v : FVec F S1024 .f32) : FVec F S1024 .f32 := colScale K b (rowScale K a v)

/-- Whether no entry of `w` is further from `v` than the tolerance times itself. -/
def close (v w : FVec F S1024 .f32) : Vec F S_ .i1 :=
  Host.reduce IntOp.andi (cmpf .ole (Host.absf (subf w v)) (mulf (broadcastInDim S1024 ![] bcast_S_S1024 (constant S_ .f32 0x3727C5AC#32)) w))
    (constantI S_ 1 1#1) reducesTo_S1024_S_d0 h_S_

/-- The step's index is at least 2. -/
def late (i : Vec F S_ .i32) : Vec F S_ .i1 :=
  cmpi .ne (cmpi .sge i (constantI S_ 32 2#32)) (broadcastInDim S_ ![] bcast_S_S_ (constantI S_ 1 0#1))

/-- Where the iteration starts: every entry of the column scaling 1, not converged. -/
def start : FVec F S1024 .f32 × Vec F S_ .i1 :=
  (broadcastInDim S1024 ![] bcast_S_S1024 (constant S_ .f32 0x3F800000#32), constantI S_ 1 0#1)

/-- One step on the column scaling and the flag that it has converged. -/
def step (K : FVec F S1024x1024 .f32) (a b : FVec F S1024 .f32) (i : Vec F S_ .i32) (s : FVec F S1024 .f32 × Vec F S_ .i1) :
    FVec F S1024 .f32 × Vec F S_ .i1 :=
  (select (broadcastInDim S1024 ![] bcast_S_S1024 s.2) s.1 (newCol K a b s.1), ori s.2 (andi (late (F := F) i) (close s.1 (newCol K a b s.1))))

/-- The index after `k` steps. -/
def idxAt : ℕ → Vec F S_ .i32
  | 0 => constantI S_ 32 0#32
  | k + 1 => addi (idxAt k) (constantI S_ 32 1#32)

/-- The column scaling and the flag after `k` steps. -/
def iter (K : FVec F S1024x1024 .f32) (a b : FVec F S1024 .f32) : ℕ → FVec F S1024 .f32 × Vec F S_ .i1
  | 0 => start
  | k + 1 => step K a b (idxAt (F := F) k) (iter K a b k)

/-- The transport plan of a column scaling, applied to `p`. -/
def plan (K : FVec F S1024x1024 .f32) (a v : FVec F S1024 .f32) (p : FVec F S1024x64 .f32) : FVec F S1024x64 .f32 :=
  Host.dotGeneral dot_S1024x1024_S1024x64_S1024x64_1_0_0_1_n_n none
    (mulf (mulf (broadcastInDim S1024x1024 ![0, 1] bcast_S1024x1_S1024x1024_0_1 (broadcastInDim S1024x1 ![0] bcast_S1024_S1024x1_0 (rowScale K a v))) K)
      (broadcastInDim S1024x1024 ![0, 1] bcast_S1x1024_S1024x1024_0_1 (broadcastInDim S1x1024 ![1] bcast_S1024_S1x1024_1 v))) p

/-- The result. -/
def out (x0 : FVec F S1024x128 .f32) (x2 : FVec F S128x256 .f32) (x3 : FVec F S256 .f32) (x4 : FVec F S256x512 .f32) (x5 : FVec F S512 .f32)
    (x6 : FVec F S512x256 .f32) (x7 : FVec F S256 .f32) (x8 : FVec F S256x64 .f32) (x9 : FVec F S64 .f32) (x1 : FVec F S1024x64 .f32)
    (x10 : FVec F S64x256 .f32) (x11 : FVec F S256 .f32) (x12 : FVec F S256x512 .f32) (x13 : FVec F S512 .f32)
    (x14 : FVec F S512x256 .f32) (x15 : FVec F S256 .f32) (x16 : FVec F S256x128 .f32) (x17 : FVec F S128 .f32) : FVec F S1024x128 .f32 :=
  let K := gibbs (cost (enc x0 x2 x3 x4 x5 x6 x7 x8 x9) x1)
  dec (plan K weights (iter K weights weights 1000).1 x1) x10 x11 x12 x13 x14 x15 x16 x17

end Cert.Proof.RI

end
-- ==== Proof.RI.Run.lean ====
/-
  The run of the reference `ReferenceIdeal`: from any memory it ends with its arguments as they were and the result array at
  `out` of them. The contents the generated fold names are read an operation at a time: before the loop, through its trips,
  and after it.
-/
module

public import proofs.«01_k».proof.Proof.RI.Value
public import proofs.«01_k».proof.Proof.Gen.ReferenceIdeal.Run
public import Idealize.ShloMosaic.Lib.Quiescent

@[expose] public section

noncomputable section

namespace Cert.Proof.RI

open Cert.ReferenceIdeal Cert.ReferenceIdeal.Gen Cert.ReferenceIdeal.Value
open Idealize.ShloMosaic Idealize.ShloMosaic.TcCoe Idealize.ShloMosaic.Tactic
open Idealize.SL.Sem
open Idealize.ShloMosaic.StableHlo

variable {F : FTy → Type} [FloatOps F]
variable (m : (ℓ : Loc nD τ sig) → Buf (Elt F) ℓ) (ρ : Dev nD → PrngReg)

/-- Argument 0, whole. -/
abbrev inp0 (c : Dev nD) : FVec F S1024x128 .f32 := m ((c.tc : Thread nD τ).loc main_arg0)
/-- Argument 1, whole. -/
abbrev inp1 (c : Dev nD) : FVec F S1024x64 .f32 := m ((c.tc : Thread nD τ).loc main_arg1)
/-- Argument 2, whole. -/
abbrev inp2 (c : Dev nD) : FVec F S128x256 .f32 := m ((c.tc : Thread nD τ).loc main_arg2)
/-- Argument 3, whole. -/
abbrev inp3 (c : Dev nD) : FVec F S256 .f32 := m ((c.tc : Thread nD τ).loc main_arg3)
/-- Argument 4, whole. -/
abbrev inp4 (c : Dev nD) : FVec F S256x512 .f32 := m ((c.tc : Thread nD τ).loc main_arg4)
/-- Argument 5, whole. -/
abbrev inp5 (c : Dev nD) : FVec F S512 .f32 := m ((c.tc : Thread nD τ).loc main_arg5)
/-- Argument 6, whole. -/
abbrev inp6 (c : Dev nD) : FVec F S512x256 .f32 := m ((c.tc : Thread nD τ).loc main_arg6)
/-- Argument 7, whole. -/
abbrev inp7 (c : Dev nD) : FVec F S256 .f32 := m ((c.tc : Thread nD τ).loc main_arg7)
/-- Argument 8, whole. -/
abbrev inp8 (c : Dev nD) : FVec F S256x64 .f32 := m ((c.tc : Thread nD τ).loc main_arg8)
/-- Argument 9, whole. -/
abbrev inp9 (c : Dev nD) : FVec F S64 .f32 := m ((c.tc : Thread nD τ).loc main_arg9)
/-- Argument 10, whole. -/
abbrev inp10 (c : Dev nD) : FVec F S64x256 .f32 := m ((c.tc : Thread nD τ).loc main_arg10)
/-- Argument 11, whole. -/
abbrev inp11 (c : Dev nD) : FVec F S256 .f32 := m ((c.tc : Thread nD τ).loc main_arg11)
/-- Argument 12, whole. -/
abbrev inp12 (c : Dev nD) : FVec F S256x512 .f32 := m ((c.tc : Thread nD τ).loc main_arg12)
/-- Argument 13, whole. -/
abbrev inp13 (c : Dev nD) : FVec F S512 .f32 := m ((c.tc : Thread nD τ).loc main_arg13)
/-- Argument 14, whole. -/
abbrev inp14 (c : Dev nD) : FVec F S512x256 .f32 := m ((c.tc : Thread nD τ).loc main_arg14)
/-- Argument 15, whole. -/
abbrev inp15 (c : Dev nD) : FVec F S256 .f32 := m ((c.tc : Thread nD τ).loc main_arg15)
/-- Argument 16, whole. -/
abbrev inp16 (c : Dev nD) : FVec F S256x128 .f32 := m ((c.tc : Thread nD τ).loc main_arg16)
/-- Argument 17, whole. -/
abbrev inp17 (c : Dev nD) : FVec F S128 .f32 := m ((c.tc : Thread nD τ).loc main_arg17)

/-- The matrix the iteration runs on. -/
abbrev Kmat (c : Dev nD) : FVec F S1024x1024 .f32 := gibbs (cost (enc (inp0 m c) (inp2 m c) (inp3 m c) (inp4 m c) (inp5 m c) (inp6 m c) (inp7 m c) (inp8 m c) (inp9 m c)) (inp1 m c))

/-- The result array of the arguments `m` holds. -/
def outOf (c : Dev nD) : FVec F S1024x128 .f32 := out (inp0 m c) (inp2 m c) (inp3 m c) (inp4 m c) (inp5 m c) (inp6 m c) (inp7 m c) (inp8 m c) (inp9 m c) (inp1 m c) (inp10 m c) (inp11 m c) (inp12 m c) (inp13 m c) (inp14 m c) (inp15 m c) (inp16 m c) (inp17 m c)

variable (c : Dev nD)

/-! ## Before the loop -/

/-- A reference no operation before the loop writes is at the loop's entry what it was at launch. -/
theorem entry_keep (r : Ref sig .tc) (h : r ∉ hostOps0_W) :
    entryContents preI m c (Proc.devRef .tc r) = m ((c.tc : Thread nD τ).loc r) := by
  simp only [entryContents, afterL_cons, afterL_nil]
  exact after_of_writes_sub hostOps0 _ hostOps0_writes h

set_option maxRecDepth 16384 in
set_option maxHeartbeats 4000000 in
/-- The matrix, as computed before the loop, -/
theorem entry_v51 : entryContents preI m c (Proc.devRef .tc main_v51) = Kmat m c := by
  simp only [entryContents, afterL_cons, afterL_nil]
  after_reads_simp
  rfl

set_option maxRecDepth 16384 in
set_option maxHeartbeats 4000000 in
/-- and as the loop carries it. -/
theorem entry_v53_0 : entryContents preI m c (Proc.devRef .tc main_v53_0) = Kmat m c := by
  simp only [entryContents, afterL_cons, afterL_nil]
  after_reads_simp
  rfl

/-- The rows' weights, as computed before the loop, -/
theorem entry_v44 : entryContents preI m c (Proc.devRef .tc main_v44) = weights := by
  simp only [entryContents, afterL_cons, afterL_nil]
  after_reads_simp
  rfl

/-- as the loop carries them, -/
theorem entry_v53_1 : entryContents preI m c (Proc.devRef .tc main_v53_1) = weights := by
  simp only [entryContents, afterL_cons, afterL_nil]
  after_reads_simp
  rfl

/-- and the columns' weights. -/
theorem entry_v53_2 : entryContents preI m c (Proc.devRef .tc main_v53_2) = weights := by
  simp only [entryContents, afterL_cons, afterL_nil]
  after_reads_simp
  rfl

/-- The step's index starts at 0, -/
theorem entry_v53_4 : entryContents preI m c (Proc.devRef .tc main_v53_4) = idxAt (F := F) 0 := by
  simp only [entryContents, afterL_cons, afterL_nil]
  after_reads_simp
  rfl

/-- the column scaling at ones, -/
theorem entry_v53_5 : entryContents preI m c (Proc.devRef .tc main_v53_5) = (start (F := F)).1 := by
  simp only [entryContents, afterL_cons, afterL_nil]
  after_reads_simp
  rfl

/-- and the flag at false. -/
theorem entry_v53_6 : entryContents preI m c (Proc.devRef .tc main_v53_6) = (start (F := F)).2 := by
  simp only [entryContents, afterL_cons, afterL_nil]
  after_reads_simp
  rfl

/-! ## The loop -/

/-- One step of the carried contents is `step` on the column scaling and the flag. -/
theorem STEP_step (V : Valuation τ sig (Elt F)) :
    (STEP V (Proc.devRef .tc main_v53_5), STEP V (Proc.devRef .tc main_v53_6))
      = step (V (Proc.devRef .tc main_v53_0)) (V (Proc.devRef .tc main_v53_1)) (V (Proc.devRef .tc main_v53_2)) (V (Proc.devRef .tc main_v53_4))
          (V (Proc.devRef .tc main_v53_5), V (Proc.devRef .tc main_v53_6)) := by
  rw [STEP_main_v53_5, STEP_main_v53_6]; rfl

/-- What the loop carries after `k` steps. -/
theorem iter_carried : ∀ k : ℕ,
    (STEP^[k] (entryContents preI m c)) (Proc.devRef .tc main_v53_0) = Kmat m c
    ∧ (STEP^[k] (entryContents preI m c)) (Proc.devRef .tc main_v53_1) = weights
    ∧ (STEP^[k] (entryContents preI m c)) (Proc.devRef .tc main_v53_2) = weights
    ∧ (STEP^[k] (entryContents preI m c)) (Proc.devRef .tc main_v53_4) = idxAt (F := F) k
    ∧ ((STEP^[k] (entryContents preI m c)) (Proc.devRef .tc main_v53_5), (STEP^[k] (entryContents preI m c)) (Proc.devRef .tc main_v53_6))
        = iter (Kmat m c) weights weights k := by
  intro k
  induction k with
  | zero =>
    refine ⟨entry_v53_0 m c, entry_v53_1 m c, entry_v53_2 m c, entry_v53_4 m c, ?_⟩
    exact Prod.ext (entry_v53_5 m c) (entry_v53_6 m c)
  | succ k ih =>
    obtain ⟨h0, h1, h2, h4, h56⟩ := ih
    rw [Function.iterate_succ_apply']
    refine ⟨(STEP_main_v53_0 _).trans h0, (STEP_main_v53_1 _).trans h1, (STEP_main_v53_2 _).trans h2, ?_, ?_⟩
    · rw [STEP_main_v53_4]; unfold step_main_v53_4; rw [h4]; rfl
    · rw [STEP_step, h0, h1, h2, h4, h56]; rfl

/-- The column scaling the loop ends with. -/
theorem atK_v53_5 (k : ℕ) : atK m k c (Proc.devRef .tc main_v53_5) = (iter (Kmat m c) weights weights k).1 :=
  (atK_agree m c k main_v53_5 (by decide)).trans (congrArg Prod.fst (iter_carried m c k).2.2.2.2)

/-- A reference no operation of the loop writes is as it was at the loop's entry before every test of the loop, -/
theorem atK_keep (r : Ref sig .tc) (h : r ∉ condOps_W ++ while0Ops0_W ++ while0Ops0_1_W ++ while0Ops0_2_W) :
    ∀ k, atK m k c (Proc.devRef .tc r) = entryContents preI m c (Proc.devRef .tc r) := by
  have h1 : r ∉ condOps_W := fun hm => h (by simp only [List.mem_append]; tauto)
  have h2 : r ∉ while0Ops0_W := fun hm => h (by simp only [List.mem_append]; tauto)
  have h3 : r ∉ while0Ops0_1_W := fun hm => h (by simp only [List.mem_append]; tauto)
  have h4 : r ∉ while0Ops0_2_W := fun hm => h (by simp only [List.mem_append]; tauto)
  intro k
  induction k with
  | zero => rfl
  | succ k ih =>
    rw [show atK m (k + 1) c = after while0Ops0_2 (after while0Ops0_1 (after while0Ops0 (after condOps (atK m k c)))) from rfl,
      after_of_writes_sub while0Ops0_2 _ while0Ops0_2_writes h4, after_of_writes_sub while0Ops0_1 _ while0Ops0_1_writes h3,
      after_of_writes_sub while0Ops0 _ while0Ops0_writes h2, after_of_writes_sub condOps _ condOps_writes h1, ih]

/-- and after it. -/
theorem exit_keep (r : Ref sig .tc) (h : r ∉ condOps_W ++ while0Ops0_W ++ while0Ops0_1_W ++ while0Ops0_2_W) :
    after condOps (atK m 1000 c) (Proc.devRef .tc r) = entryContents preI m c (Proc.devRef .tc r) :=
  (after_of_writes_sub condOps _ condOps_writes fun hm => h (by simp only [List.mem_append]; tauto)).trans (atK_keep m c r h 1000)

/-- The column scaling after the loop. -/
theorem exit_v53_5 : after condOps (atK m 1000 c) (Proc.devRef .tc main_v53_5) = (iter (Kmat m c) weights weights 1000).1 :=
  (cond_keeps (atK m 1000 c) main_v53_5 (by decide)).trans (atK_v53_5 m c 1000)

/-! ## After the loop -/

/-- What the operations after the loop write, in order, -/
abbrev postWrites : List (Ref sig .tc) := [main_v54, main_cst_16, main_v55, main_v56, main_v57, main_v58, main_v59, main_v60, main_v61, main_v62, main_v63, main_v64, main_v65, main_v66, main_v67, main_v68, main_cst_17, main_v69, main_v70, main_v71, main_v72, main_v73, main_v74, main_cst_18, main_v75, main_v76, main_v77, main_v78, main_v79, main_v80, main_cst_19, main_v81, main_v82, main_v83, main_v84, main_v85, main_v86]

/-- and they write nothing else. -/
theorem post_writes : (hostOps0_1 : List (HloOp τ sig (Elt F))).Forall fun op => op.writes ⊆ (postWrites.map (Proc.devRef (τ := τ) .tc)).toFinset :=
  StableHlo.forall_writes_sub_of_map rfl

/-- A reference that no operation writes is at the end what it was at launch. -/
theorem final_keep (r : Ref sig .tc) (h : r ∉ hostOps0_W) (h' : r ∉ condOps_W ++ while0Ops0_W ++ while0Ops0_1_W ++ while0Ops0_2_W)
    (h'' : r ∉ postWrites) :
    finalContents condOps preI bodyI postI 1000 m c (Proc.devRef .tc r) = m ((c.tc : Thread nD τ).loc r) := by
  simp only [finalContents, afterL_cons, afterL_nil]
  exact (after_of_writes_sub hostOps0_1 _ post_writes h'').trans ((exit_keep m c r h').trans (entry_keep m c r h))

set_option maxRecDepth 16384 in
set_option maxHeartbeats 4000000 in
/-- The operations after the loop, from any contents. -/
theorem post_v86 (V : Valuation τ sig (Elt F)) : after hostOps0_1 V (Proc.devRef .tc main_v86)
    = dec (plan (V (Proc.devRef .tc main_v51)) (V (Proc.devRef .tc main_v44)) (V (Proc.devRef .tc main_v53_5)) (V (Proc.devRef .tc main_arg1)))
        (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  after_reads_simp
  rfl

/-- The result array at the end. -/
theorem final_v86 : finalContents condOps preI bodyI postI 1000 m c (Proc.devRef .tc main_v86) = outOf m c := by
  simp only [finalContents, afterL_cons, afterL_nil]
  refine (post_v86 _).trans ?_
  have ha := fun (r : Ref sig .tc) (h : r ∉ hostOps0_W) (h' : r ∉ condOps_W ++ while0Ops0_W ++ while0Ops0_1_W ++ while0Ops0_2_W) =>
    (exit_keep m c r h').trans (entry_keep m c r h)
  rw [(exit_keep m c main_v51 (by decide)).trans (entry_v51 m c), (exit_keep m c main_v44 (by decide)).trans (entry_v44 m c), exit_v53_5 m c,
    ha main_arg1 (by decide) (by decide), ha main_arg10 (by decide) (by decide), ha main_arg11 (by decide) (by decide), ha main_arg12 (by decide) (by decide), ha main_arg13 (by decide) (by decide), ha main_arg14 (by decide) (by decide), ha main_arg15 (by decide) (by decide), ha main_arg16 (by decide) (by decide), ha main_arg17 (by decide) (by decide)]
  rfl

/-- On every device the program ends with the result array at `outOf`, its arguments as they were, and every counter zero. -/
theorem run_main : θ_run (defs (F := F)) (onTc (τ := τ) (main (F := F))) ⟨m, fun _ => 0, ρ⟩ (fun r =>
    (∀ c : Dev nD, r.2.mem ((c.tc : Thread nD τ).loc main_v86) = outOf m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17)) ∧ r.2.sem = fun _ => 0) :=
  (θ_run _ _ _).mono (fun r h => ⟨fun c => ⟨(h c main_v86 (by decide)).trans (final_v86 m c), (h c main_arg0 (by decide)).trans (final_keep m c main_arg0 (by decide) (by decide) (by decide)), (h c main_arg1 (by decide)).trans (final_keep m c main_arg1 (by decide) (by decide) (by decide)), (h c main_arg2 (by decide)).trans (final_keep m c main_arg2 (by decide) (by decide) (by decide)), (h c main_arg3 (by decide)).trans (final_keep m c main_arg3 (by decide) (by decide) (by decide)), (h c main_arg4 (by decide)).trans (final_keep m c main_arg4 (by decide) (by decide) (by decide)), (h c main_arg5 (by decide)).trans (final_keep m c main_arg5 (by decide) (by decide) (by decide)), (h c main_arg6 (by decide)).trans (final_keep m c main_arg6 (by decide) (by decide) (by decide)), (h c main_arg7 (by decide)).trans (final_keep m c main_arg7 (by decide) (by decide) (by decide)), (h c main_arg8 (by decide)).trans (final_keep m c main_arg8 (by decide) (by decide) (by decide)), (h c main_arg9 (by decide)).trans (final_keep m c main_arg9 (by decide) (by decide) (by decide)), (h c main_arg10 (by decide)).trans (final_keep m c main_arg10 (by decide) (by decide) (by decide)), (h c main_arg11 (by decide)).trans (final_keep m c main_arg11 (by decide) (by decide) (by decide)), (h c main_arg12 (by decide)).trans (final_keep m c main_arg12 (by decide) (by decide) (by decide)), (h c main_arg13 (by decide)).trans (final_keep m c main_arg13 (by decide) (by decide) (by decide)), (h c main_arg14 (by decide)).trans (final_keep m c main_arg14 (by decide) (by decide) (by decide)), (h c main_arg15 (by decide)).trans (final_keep m c main_arg15 (by decide) (by decide) (by decide)), (h c main_arg16 (by decide)).trans (final_keep m c main_arg16 (by decide) (by decide) (by decide)), (h c main_arg17 (by decide)).trans (final_keep m c main_arg17 (by decide) (by decide) (by decide))⟩, sem_eq_zero_of_no_sems rfl r.2⟩) (run_fold m ρ)

end Cert.Proof.RI

end
-- ==== Proof.Math.Scalars.lean ====
/-
  Facts about extended reals that the equation of the two programs rests on: what the literals denote, quotients of numbers that
  are not negative, and the one law by which the kernel's and the reference's forms of the matrix `exp (-M / reg)` agree.
-/
module

public import Idealize.ShloMosaic.PureOps.Ideal
public import Idealize.ShloMosaic.PureOps.Ideal.Laws

@[expose] public section

noncomputable section

namespace Cert.Proof.Math

open Idealize.ShloMosaic

/-! ## The literals -/

/-- The number added to both scalings' denominators, as f32 rounds 1e-16. -/
abbrev eps : EReal := Ideal.ofBits .f32 0x24E69595#32

/-- The number added to the greatest cost, as f32 rounds 1e-12. -/
abbrev tiny : EReal := Ideal.ofBits .f32 0x2B8CBCCC#32

/-- The weight 1/1024. -/
abbrev wt : EReal := Ideal.ofBits .f32 0x3A800000#32

/-- The regulariser, as f32 rounds 0.05. -/
abbrev reg : EReal := Ideal.ofBits .f32 0x3D4CCCCD#32

theorem eps_eq : eps = ((15111573 / 2 ^ 77 : ℝ) : EReal) := by
  simp [eps, Ideal.ofBits, Ideal.ieee, -EReal.coe_mul]; norm_num

theorem tiny_eq : tiny = ((9223372 / 2 ^ 63 : ℝ) : EReal) := by
  simp [tiny, Ideal.ofBits, Ideal.ieee, -EReal.coe_mul]; norm_num

theorem wt_eq : wt = ((1 / 1024 : ℝ) : EReal) := by
  simp [wt, Ideal.ofBits, Ideal.ieee, -EReal.coe_mul]; norm_num

theorem reg_eq : reg = ((13421773 / 268435456 : ℝ) : EReal) := by
  simp [reg, Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The reference computes the weight as a quotient. -/
theorem one_div_1024 : Ideal.div 1 (Ideal.ofBits .f32 0x44800000#32) = wt := by
  rw [ofBits_1024, wt_eq, Ideal.div_coe (by norm_num), one_mul]

theorem eps_pos : 0 < eps := by rw [eps_eq]; exact_mod_cast (by norm_num : (0 : ℝ) < 15111573 / 2 ^ 77)

theorem wt_nonneg : 0 ≤ wt := by rw [wt_eq]; exact_mod_cast (by norm_num : (0 : ℝ) ≤ 1 / 1024)

/-! ## Quotients by a positive number -/

/-- The weight over a number that is not negative plus `eps` is not negative, -/
theorem scaling_nonneg {x : EReal} (h : 0 ≤ x) : 0 ≤ Ideal.div wt (x + eps) := by
  have hx : 0 < x + eps := lt_of_lt_of_le eps_pos (le_add_of_nonneg_left h)
  rw [Ideal.div, if_neg hx.ne']
  exact mul_nonneg wt_nonneg (EReal.inv_nonneg_of_nonneg hx.le)

/-- and not infinite. -/
theorem scaling_ne_top {x : EReal} (h : 0 ≤ x) : Ideal.div wt (x + eps) ≠ ⊤ := by
  have hx : 0 < x + eps := lt_of_lt_of_le eps_pos (le_add_of_nonneg_left h)
  rw [Ideal.div, if_neg hx.ne']
  induction x using EReal.rec with
  | bot => simp at h
  | top => rw [eps_eq, EReal.top_add_coe, EReal.inv_top, mul_zero]; exact EReal.zero_ne_top
  | coe r => rw [eps_eq, wt_eq, ← EReal.coe_add, ← EReal.coe_inv, ← EReal.coe_mul]; exact EReal.coe_ne_top _

/-! ## The exponential -/

/-- The exponential is never negative. -/
theorem exp_nonneg (x : EReal) : 0 ≤ Ideal.exp x := by
  induction x using EReal.rec with
  | bot => exact le_rfl
  | top => exact le_top
  | coe r => exact EReal.coe_nonneg.mpr (Real.exp_pos r).le

/-! ## Sums and tests -/

/-- A difference is at most zero where the first number is at most the second, infinities included. -/
theorem sub_nonpos_iff (x y : EReal) : x - y ≤ 0 ↔ x ≤ y := by
  induction x using EReal.rec <;> induction y using EReal.rec <;> simp [← EReal.coe_sub, sub_eq_add_neg]
  case coe a b =>
    rw [← EReal.coe_neg, ← EReal.coe_add, ← EReal.coe_zero, EReal.coe_le_coe_iff]; constructor <;> intro h <;> linarith

/-- A number that is neither negative nor infinite goes into a sum, whatever the terms. -/
theorem mul_sum {α : Type*} (s : Finset α) (f : α → EReal) {c : EReal} (h : 0 ≤ c) (h' : c ≠ ⊤) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h h', ih]

/-! ## The matrix of the normalised cost -/

/-- The greatest entry, none below zero, is the greatest of the entries raised to zero. -/
theorem max_fold {α : Type*} [Fintype α] [Nonempty α] (d : α → EReal) :
    max (Finset.univ.fold max ⊥ d) 0 = Finset.univ.fold max ⊥ fun q => max (d q) 0 := by
  have h1 : ∀ f : α → EReal, Finset.univ.fold max ⊥ f = Finset.univ.sup f := fun f => rfl
  rw [h1, h1]
  apply le_antisymm
  · refine max_le (Finset.sup_mono_fun fun q _ => le_max_left _ _) ?_
    obtain ⟨q⟩ := ‹Nonempty α›
    exact (le_max_right (d q) 0).trans (Finset.le_sup (f := fun q => max (d q) 0) (Finset.mem_univ q))
  · exact Finset.sup_le fun q _ => max_le ((Finset.le_sup (f := d) (Finset.mem_univ q)).trans (le_max_left _ _)) (le_max_right _ _)

/-- The kernel multiplies the squared distance by minus `1 / reg` over the greatest cost, and cuts the product off at zero; the
    reference divides the cost by the greatest cost and then by `reg`. The exponentials are equal for all extended reals. -/
theorem gibbs_entry {α : Type*} [Fintype α] [Nonempty α] (d : α → EReal) (q : α) :
    Ideal.exp (min (d q * (0 - Ideal.div ((268435456 / 13421773 : ℝ) : EReal) (max (Finset.univ.fold max ⊥ d) 0 + tiny))) 0)
      = Ideal.exp (Ideal.div (-Ideal.div (max (d q) 0) (Finset.univ.fold max ⊥ (fun q => max (d q) 0) + tiny)) reg) := by
  rw [max_fold]
  have hle : max (d q) 0 ≤ Finset.univ.fold max ⊥ (fun q => max (d q) 0) :=
    Finset.le_sup (f := fun q => max (d q) 0) (Finset.mem_univ q)
  generalize Finset.univ.fold max ⊥ (fun q => max (d q) 0) = M at hle
  generalize d q = x at hle
  have h0 : 0 ≤ M := (le_max_right _ _).trans hle
  have hx : x ≤ M := (le_max_left _ _).trans hle
  rw [reg_eq, Ideal.div_coe (by norm_num)]
  congr 1
  induction M using EReal.rec with
  | bot => simp at h0
  | top =>
    have ht : (⊤ : EReal) + tiny = ⊤ := by rw [tiny_eq, EReal.top_add_coe]
    simp [ht, Ideal.div]
  | coe M =>
    have hM : 0 ≤ M := by exact_mod_cast h0
    have hp : M + 9223372 / 2 ^ 63 ≠ 0 := by positivity
    rw [tiny_eq, ← EReal.coe_add, Ideal.div_coe hp, Ideal.div_coe hp]
    induction x using EReal.rec with
    | bot =>
      have hc : (0 : EReal) - ((268435456 / 13421773 : ℝ) : EReal) * ((1 / (M + 9223372 / 2 ^ 63) : ℝ) : EReal)
          = ((-(268435456 / 13421773 * (1 / (M + 9223372 / 2 ^ 63))) : ℝ) : EReal) := by
        rw [← EReal.coe_mul, zero_sub, ← EReal.coe_neg]
      have hn : -(268435456 / 13421773 * (1 / (M + 9223372 / 2 ^ 63))) < 0 := by
        rw [neg_lt_zero]; positivity
      rw [hc, EReal.bot_mul_coe_of_neg hn]
      simp
    | top => simp at hx
    | coe x =>
      have hc : 0 < 1 / (M + 9223372 / 2 ^ 63) := by positivity
      generalize 1 / (M + 9223372 / 2 ^ 63) = c at hc
      rw [← EReal.coe_zero, ← EReal.coe_mul, ← EReal.coe_sub, ← EReal.coe_mul]
      rcases le_total x 0 with h | h
      · have hl : 0 ≤ x * (0 - 268435456 / 13421773 * c) := by nlinarith [mul_nonneg (neg_nonneg.mpr h) hc.le]
        rw [max_eq_right (EReal.coe_le_coe_iff.mpr h), min_eq_right (EReal.coe_le_coe_iff.mpr hl)]
        simp
      · have hl : x * (0 - 268435456 / 13421773 * c) ≤ 0 := by nlinarith [mul_nonneg h hc.le]
        rw [max_eq_left (EReal.coe_le_coe_iff.mpr h), min_eq_left (EReal.coe_le_coe_iff.mpr hl), ← EReal.coe_mul, ← EReal.coe_neg,
          ← EReal.coe_mul]
        congr 1
        ring

end Cert.Proof.Math

end
-- ==== Proof.Math.Matrix.lean ====
/-
  What the kernel and the reference compute before and after the iteration, over the extended reals: the encoded rows, the
  matrix `exp (-M / reg)`, and the decoded rows are the same functions of the same arguments.
-/
module

public import proofs.«01_k».proof.Proof.KI.Value
public import proofs.«01_k».proof.Proof.RI.Value
public import proofs.«01_k».proof.Proof.Math.Scalars
public import Idealize.ShloMosaic.Lib.Pointwise

@[expose] public section

set_option maxRecDepth 16384

noncomputable section

namespace Cert.Proof.Math

open Cert.KernelIdeal Cert.KernelIdeal.Gen
open Idealize.ShloMosaic Idealize.ShloMosaic.TcCoe

variable (x0 : FVec Ideal S1024x128 .f32) (x1 : FVec Ideal S1024x64 .f32) (x2 : FVec Ideal S128x256 .f32) (x3 : FVec Ideal S256 .f32)
  (x4 : FVec Ideal S256x512 .f32) (x5 : FVec Ideal S512 .f32) (x6 : FVec Ideal S512x256 .f32) (x7 : FVec Ideal S256 .f32)
  (x8 : FVec Ideal S256x64 .f32) (x9 : FVec Ideal S64 .f32) (x10 : FVec Ideal S64x256 .f32) (x11 : FVec Ideal S256 .f32)
  (x12 : FVec Ideal S256x512 .f32) (x13 : FVec Ideal S512 .f32) (x14 : FVec Ideal S512x256 .f32) (x15 : FVec Ideal S256 .f32)
  (x16 : FVec Ideal S256x128 .f32) (x17 : FVec Ideal S128 .f32)

/-- The encoded rows. -/
theorem enc_eq : KI.encOut x0 x2 x3 x4 x5 x6 x7 x8 x9 = RI.enc x0 x2 x3 x4 x5 x6 x7 x8 x9 := by
  funext j
  idx_vars j
  pointwise [k0_pay4, RI.enc]

/-- The squared distance of row `i` of `z` from row `j` of `p`. -/
def dist (z p : FVec Ideal S1024x64 .f32) (q : Fin 1024 × Fin 1024) : EReal :=
  (∑ l : Fin 64, z (ix2 q.1 l) * z (ix2 q.1 l)) + (∑ l : Fin 64, p (ix2 q.2 l) * p (ix2 q.2 l))
    - Ideal.ofBits .f32 0x40000000#32 * ∑ l : Fin 64, z (ix2 q.1 l) * p (ix2 q.2 l)

/-- The kernel's squared norms of the encoded rows. -/
theorem norms_apply (i : Fin 1024) : k0_pay5 x0 x2 x3 x4 x5 x6 x7 x8 x9 (ix2 i 0)
    = ∑ l : Fin 64, KI.encOut (F := Ideal) x0 x2 x3 x4 x5 x6 x7 x8 x9 (ix2 i l) * KI.encOut (F := Ideal) x0 x2 x3 x4 x5 x6 x7 x8 x9 (ix2 i l) := by
  pointwise [k0_pay5]

/-- The kernel's squares of the entries of `p`. -/
theorem squares_apply (p : FVec Ideal S1024x64 .f32) (j : Fin 1024) (l : Fin 64) : k0_pay6 p (ix2 j l) = p (ix2 j l) * p (ix2 j l) := by
  pointwise [k0_pay6]

/-- The kernel's matrix at an entry, from encoded rows `z` whose squared norms are `n` and rows `p` whose squares are `s`. -/
theorem kernel_gibbs_apply (z p s : FVec Ideal S1024x64 .f32) (n : FVec Ideal S1024x1 .f32)
    (hn : ∀ i : Fin 1024, n (ix2 i 0) = ∑ l : Fin 64, z (ix2 i l) * z (ix2 i l))
    (hs : ∀ (j : Fin 1024) (l : Fin 64), s (ix2 j l) = p (ix2 j l) * p (ix2 j l)) (i j : Fin 1024) :
    k0_pay7 z p n s (ix2 i j)
      = Ideal.exp (min (dist z p (i, j) * (0 - Ideal.div ((268435456 / 13421773 : ℝ) : EReal)
          (max (Finset.univ.fold max ⊥ (dist z p)) 0 + tiny))) 0) := by
  have hk : (Named.named Cert.KernelIdeal.κ "inv_reg" 0x41A00000#32 : Ideal .f32) = ((268435456 / 13421773 : ℝ) : EReal) := rfl
  pointwise [k0_pay7]
  simp only [hn, hs, hk, ofBits_neg_inf]
  rfl

/-- The greatest entry of a matrix, as the reference takes it. -/
theorem greatest_apply (C : FVec Ideal Cert.ReferenceIdeal.S1024x1024 .f32) (j : Cert.ReferenceIdeal.S_.Idx) : RI.greatest C j
      = Finset.univ.fold max ⊥ fun q : Fin 1024 × Fin 1024 => C (ix2 q.1 q.2) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [RI.greatest, Host.reduce_eq_fold]
  have hall : (Finset.univ.filter fun i => (Cert.ReferenceIdeal.Gen.reducesTo_S1024x1024_S_d0_1).drop i = j) = Finset.univ :=
    Finset.filter_true_of_mem fun i _ => funext fun a => a.elim0
  rw [hall]
  show Finset.univ.fold max (Ideal.ofBits .f32 0xFF800000#32) C = _
  rw [ofBits_neg_inf]
  show Finset.univ.sup C = Finset.univ.sup fun q : Fin 1024 × Fin 1024 => C (ix2 q.1 q.2)
  apply le_antisymm
  · refine Finset.sup_le fun i _ => ?_
    rw [eq_ix2 i]
    exact Finset.le_sup (f := fun q : Fin 1024 × Fin 1024 => C (ix2 q.1 q.2)) (Finset.mem_univ (i 0, i 1))
  · exact Finset.sup_le fun q _ => Finset.le_sup (f := C) (Finset.mem_univ (ix2 q.1 q.2))

/-- The reference's matrix at an entry, from the number the cost is divided by. -/
theorem gibbsOver_apply (C : FVec Ideal Cert.ReferenceIdeal.S1024x1024 .f32) (r : FVec Ideal Cert.ReferenceIdeal.S_ .f32) (i j : Fin 1024) :
    RI.gibbsOver C r (ix2 i j) = Ideal.exp (Ideal.div (-Ideal.div (C (ix2 i j)) (r ix0 + tiny)) reg) := by
  pointwise [RI.gibbsOver]

/-- The reference's cost at an entry. -/
theorem cost_apply (z p : FVec Ideal S1024x64 .f32) (q : Fin 1024 × Fin 1024) : RI.cost z p (ix2 q.1 q.2) = max (dist z p q) 0 := by
  pointwise [RI.cost, RI.sqDist]
  rfl

/-- The reference's matrix at an entry. -/
theorem ref_gibbs_apply (z p : FVec Ideal S1024x64 .f32) (i j : Fin 1024) :
    RI.gibbs (RI.cost z p) (ix2 i j)
      = Ideal.exp (Ideal.div (-Ideal.div (max (dist z p (i, j)) 0) (Finset.univ.fold max ⊥ (fun q => max (dist z p q) 0) + tiny)) reg) := by
  rw [RI.gibbs, gibbsOver_apply, greatest_apply]
  simp only [cost_apply]
  rw [cost_apply z p (i, j)]

/-- The two matrices are equal. -/
theorem gibbs_eq : KI.gibbs x0 x1 x2 x3 x4 x5 x6 x7 x8 x9 = RI.gibbs (RI.cost (RI.enc x0 x2 x3 x4 x5 x6 x7 x8 x9) x1) := by
  funext j
  idx_vars j
  rw [ref_gibbs_apply, ← gibbs_entry, ← enc_eq]
  exact kernel_gibbs_apply _ x1 _ _ (norms_apply x0 x2 x3 x4 x5 x6 x7 x8 x9) (squares_apply x1) _ _

/-- No entry of the matrix is negative. -/
theorem gibbs_nonneg (z p : FVec Ideal S1024x64 .f32) (i j : Fin 1024) : 0 ≤ RI.gibbs (RI.cost z p) (ix2 i j) := by
  rw [ref_gibbs_apply]; exact exp_nonneg _

/-- The decoded rows are the same wherever the rows `z` that the reference decodes are the kernel's scaled products. -/
theorem dec_eq (K : FVec Ideal S1024x1024 .f32) (v : FVec Ideal S1x1024 .f32) (z : FVec Ideal S1024x64 .f32)
    (hz : ∀ (i : Fin 1024) (l : Fin 64), Ideal.div wt ((∑ j : Fin 1024, K (ix2 i j) * v (ix2 0 j)) + eps) * (∑ j : Fin 1024, K (ix2 i j) * (v (ix2 0 j) * x1 (ix2 j l))) = z (ix2 i l)) :
    k0_pay1 (k0_pay10 x1 K v x10 x11 x12) x13 x14 x15 x16 x17 = RI.dec z x10 x11 x12 x13 x14 x15 x16 x17 := by
  funext j
  idx_vars j
  pointwise [k0_pay1, k0_pay10, RI.dec]
  simp only [← hz]

end Cert.Proof.Math

end
-- ==== Proof.Math.Loop.lean ====
/-
  The iteration: the kernel, which makes two steps and then stops as soon as a step's test holds, and the reference, which makes
  a thousand steps and keeps what has converged, end with the same column scaling.
-/
module

public import proofs.«01_k».proof.Proof.KI.Value
public import proofs.«01_k».proof.Proof.RI.Value
public import proofs.«01_k».proof.Proof.Math.Scalars
public import Idealize.ShloMosaic.Lib.Pointwise
public import Idealize.ShloMosaic.Lib.ReduceAll

@[expose] public section

set_option maxRecDepth 16384

noncomputable section

namespace Cert.Proof.Math

open Cert.KernelIdeal Cert.KernelIdeal.Gen
open Idealize.ShloMosaic Idealize.ShloMosaic.TcCoe

/-- The kernel's column scaling, a row, and the reference's, a vector, have the same entries. -/
def Same (v : FVec Ideal S1x1024 .f32) (w : FVec Ideal S1024 .f32) : Prop := ∀ j : Fin 1024, v (ix2 0 j) = w (ix1 j)

variable (K : FVec Ideal S1024x1024 .f32)

/-! ## One step -/

/-- The entries of the weights. -/
theorem weights_apply (i : Fin 1024) : RI.weights (F := Ideal) (ix1 i) = wt := by
  pointwise [RI.weights]
  exact one_div_1024

/-- The reference's row scaling, entry by entry. -/
theorem rowScale_apply (v : FVec Ideal S1024 .f32) (i : Fin 1024) :
    RI.rowScale K RI.weights v (ix1 i) = Ideal.div wt ((∑ j : Fin 1024, K (ix2 i j) * v (ix1 j)) + eps) := by
  have hw := weights_apply i
  generalize RI.weights (F := Ideal) = a at hw
  pointwise [RI.rowScale]
  rw [hw]

/-- The reference's column scaling, entry by entry. -/
theorem colScale_apply (u : FVec Ideal S1024 .f32) (j : Fin 1024) :
    RI.colScale K RI.weights u (ix1 j) = Ideal.div wt ((∑ i : Fin 1024, K (ix2 i j) * u (ix1 i)) + eps) := by
  have hw := weights_apply j
  generalize RI.weights (F := Ideal) = a at hw
  pointwise [RI.colScale]
  rw [hw]

/-- A step of the reference, entry by entry. -/
theorem newCol_apply (v : FVec Ideal S1024 .f32) (j : Fin 1024) :
    RI.newCol K RI.weights RI.weights v (ix1 j)
      = Ideal.div wt ((∑ i : Fin 1024, K (ix2 i j) * Ideal.div wt ((∑ l : Fin 1024, K (ix2 i l) * v (ix1 l)) + eps)) + eps) := by
  rw [RI.newCol, colScale_apply]
  simp only [rowScale_apply]

/-- A step of the kernel, entry by entry. -/
theorem trip_apply (v : FVec Ideal S1x1024 .f32) (j : Fin 1024) :
    KI.trip K v (ix2 0 j)
      = Ideal.div wt ((∑ i : Fin 1024, K (ix2 i j) * Ideal.div wt ((∑ l : Fin 1024, K (ix2 i l) * v (ix2 0 l)) + eps)) + eps) := by
  pointwise [KI.trip, k0_pay2]

/-- From the same column scaling a step of either leads to the same. -/
theorem trip_same {v : FVec Ideal S1x1024 .f32} {w : FVec Ideal S1024 .f32} (h : Same v w) :
    Same (KI.trip K v) (RI.newCol K RI.weights RI.weights w) := by
  intro j
  rw [trip_apply, newCol_apply]
  simp only [h _]

/-! ## The test -/

/-- A truth value as a bit is 1 where it is true. -/
theorem ofBool_eq_one (b : Bool) : BitVec.ofBool b = 1#1 ↔ b = true := by cases b <;> decide

/-- The kernel's test compares the greatest excess with zero: it holds where every entry's excess is at most zero. -/
theorem near_iff (v : FVec Ideal S1x1024 .f32) :
    KI.near K v = 1#1 ↔ ∀ j : Fin 1024, FloatOps.absf (F := Ideal) (φ := .f32) (KI.trip K v (ix2 0 j) - v (ix2 0 j))
      ≤ Ideal.ofBits .f32 0x3727C5AC#32 * KI.trip K v (ix2 0 j) := by
  have hm : k0_pay3 K KI.wt KI.wt v = Finset.univ.sup fun q : Fin 1 × Fin 1024 =>
      FloatOps.absf (F := Ideal) (φ := .f32) (KI.trip K v (ix2 0 q.2) - v (ix2 0 q.2)) - Ideal.ofBits .f32 0x3727C5AC#32 * KI.trip K v (ix2 0 q.2) := by
    pointwise [k0_pay3]
    rw [ofBits_neg_inf]
    rfl
  have h1 : KI.near K v = BitVec.ofBool (decide ((k0_pay3 K KI.wt KI.wt v : EReal) ≤ Ideal.ofBits .f32 0x00000000#32)) := rfl
  rw [h1, hm, Ideal.ofBits_zero_f32, ofBool_eq_one, decide_eq_true_iff, Finset.sup_le_iff]
  simp only [sub_nonpos_iff]
  exact ⟨fun h j => h (0, j) (Finset.mem_univ _), fun h q _ => h q.2⟩

/-- The reference's test, entry by entry. -/
theorem close_iff (v w : FVec Ideal S1024 .f32) :
    RI.close v w ix0 = 1#1 ↔ ∀ j : Fin 1024, FloatOps.absf (F := Ideal) (φ := .f32) (w (ix1 j) - v (ix1 j))
      ≤ Ideal.ofBits .f32 0x3727C5AC#32 * w (ix1 j) := by
  have he : ∀ j : Fin 1024, cmpf .ole (Host.absf (subf w v)) (mulf (broadcastInDim S1024 ![] Cert.ReferenceIdeal.Gen.bcast_S_S1024
      (constant Cert.ReferenceIdeal.S_ .f32 0x3727C5AC#32)) w) (ix1 j) = 1#1
        ↔ FloatOps.absf (F := Ideal) (φ := .f32) (w (ix1 j) - v (ix1 j)) ≤ Ideal.ofBits .f32 0x3727C5AC#32 * w (ix1 j) := by
    intro j
    show BitVec.ofBool (decide _) = 1#1 ↔ _
    rw [ofBool_eq_one, decide_eq_true_iff]
    rfl
  constructor
  · intro h j
    haveI : Subsingleton Cert.ReferenceIdeal.S_.Idx := ⟨fun a b => funext fun i => i.elim0⟩
    exact (he j).mp (Host.reduce_andi_all _ _ _ _ _ h _)
  · intro h
    refine Host.reduce_andi_one _ _ _ _ _ rfl fun i => ?_
    rw [eq_ix1 i]
    exact (he _).mpr (h _)

/-- The two tests agree. -/
theorem near_eq {v : FVec Ideal S1x1024 .f32} {w : FVec Ideal S1024 .f32} (h : Same v w) :
    KI.near K v = RI.close w (RI.newCol K RI.weights RI.weights w) ix0 := by
  have hs := trip_same K h
  have e : KI.near K v = 1#1 ↔ RI.close w (RI.newCol K RI.weights RI.weights w) ix0 = 1#1 := by
    rw [near_iff, close_iff]
    simp only [h _, hs _]
  revert e
  generalize KI.near K v = p
  generalize RI.close w (RI.newCol K RI.weights RI.weights w) ix0 = q
  intro e
  by_cases hp : p = 1#1
  · rw [hp, e.mp hp]
  · have hq : ¬ q = 1#1 := fun h => hp (e.mpr h)
    bv_omega

/-! ## The steps of the reference -/

/-- The state of the reference after `k` steps. -/
abbrev st (k : ℕ) : FVec Ideal S1024 .f32 × Vec Ideal Cert.ReferenceIdeal.S_ .i1 := RI.iter K RI.weights RI.weights k

/-- The step's index after `k` steps. -/
theorem idxAt_apply : ∀ k : ℕ, RI.idxAt (F := Ideal) k ix0 = BitVec.ofNat 32 k
  | 0 => rfl
  | k + 1 => by
    show RI.idxAt (F := Ideal) k ix0 + 1#32 = _
    rw [idxAt_apply k]
    simp [BitVec.ofNat_add]

/-- The test counts from the third step on. -/
theorem late_apply {k : ℕ} (h : k < 1000) : RI.late (F := Ideal) (RI.idxAt (F := Ideal) k) ix0 = if 2 ≤ k then 1#1 else 0#1 := by
  have h1 : RI.late (F := Ideal) (RI.idxAt (F := Ideal) k) ix0
      = IntOp.cmpi .ne (IntOp.cmpi .sge (RI.idxAt (F := Ideal) k ix0) 2#32) 0#1 := rfl
  have h2 : (BitVec.ofNat 32 k).toInt = k := by
    rw [BitVec.toInt_eq_toNat_of_lt (by simp only [BitVec.toNat_ofNat]; omega), BitVec.toNat_ofNat, Nat.mod_eq_of_lt (by omega)]
  have h3 : IntOp.cmpi .sge (BitVec.ofNat 32 k) 2#32 = BitVec.ofBool (decide (2 ≤ k)) := by
    show BitVec.ofBool ((2#32 : BitVec 32).sle (BitVec.ofNat 32 k)) = _
    rw [BitVec.sle, h2]
    congr 1
    exact decide_eq_decide.mpr (by simp)
  rw [h1, idxAt_apply, h3]
  by_cases hk : 2 ≤ k <;> simp [hk] <;> rfl

/-- The column scaling after a step: what it was if it has converged, and otherwise a step on. -/
theorem st_succ_col (k : ℕ) (j : Fin 1024) :
    (st K (k + 1)).1 (ix1 j) = if (st K k).2 ix0 = 1#1 then (st K k).1 (ix1 j) else RI.newCol K RI.weights RI.weights (st K k).1 (ix1 j) := by
  have hi : broadcastInDim S1024 ![] Cert.ReferenceIdeal.Gen.bcast_S_S1024 (st K k).2 (ix1 j) = (st K k).2 ix0 :=
    congrArg (st K k).2 (funext fun a => a.elim0)
  show Scalar.select (broadcastInDim S1024 ![] Cert.ReferenceIdeal.Gen.bcast_S_S1024 (st K k).2 (ix1 j)) _ _ = _
  rw [hi]
  rfl

/-- The flag after a step. -/
theorem st_succ_flag (k : ℕ) :
    (st K (k + 1)).2 ix0 = (st K k).2 ix0 ||| (RI.late (F := Ideal) (RI.idxAt (F := Ideal) k) ix0
      &&& RI.close (st K k).1 (RI.newCol K RI.weights RI.weights (st K k).1) ix0) := rfl

/-- What has converged stays. -/
theorem st_frozen {k : ℕ} (h : (st K k).2 ix0 = 1#1) : ∀ n, (st K (k + n)).2 ix0 = 1#1 ∧ ∀ j : Fin 1024, (st K (k + n)).1 (ix1 j) = (st K k).1 (ix1 j)
  | 0 => ⟨h, fun _ => rfl⟩
  | n + 1 => by
    obtain ⟨h1, h2⟩ := st_frozen h n
    refine ⟨?_, fun j => ?_⟩
    · show (st K (k + n + 1)).2 ix0 = 1#1
      rw [st_succ_flag, h1]
      generalize RI.late (F := Ideal) _ ix0 &&& _ = x
      revert x; decide
    · show (st K (k + n + 1)).1 (ix1 j) = _
      rw [st_succ_col, if_pos h1, h2]

/-! ## The loops -/

/-- From the state after `k` steps, `k` at least 2, the kernel's loop ends with the column scaling of step 1000. -/
theorem runFrom_same : ∀ (n k : ℕ) (v : FVec Ideal S1x1024 .f32) (d : BitVec 1), 2 ≤ k → k + n = 1000 → Same v (st K k).1 → d = (st K k).2 ix0 →
    Same (KI.runFrom K n v d).2.1 (st K 1000).1
  | 0, k, v, d, _, hk, hv, _ => by
    obtain rfl : k = 1000 := hk
    exact hv
  | n + 1, k, v, d, h2, hk, hv, hd => by
    rw [KI.runFrom]
    by_cases hc : d = 1#1
    · rw [if_pos hc]
      intro j
      have := (st_frozen K (hd ▸ hc) (n + 1)).2 j
      rw [hk] at this
      rw [this]
      exact hv j
    · rw [if_neg hc]
      have hne : ¬ (st K k).2 ix0 = 1#1 := fun h => hc (hd.trans h)
      have hz : (st K k).2 ix0 = 0#1 := by
        revert hne; generalize (st K k).2 ix0 = x; revert x; decide
      refine runFrom_same n (k + 1) _ _ (by omega) (by omega) (fun j => ?_) ?_
      · rw [st_succ_col, if_neg hne]
        exact trip_same K hv j
      · rw [st_succ_flag, hz, late_apply (by omega), if_pos h2, ← near_eq K hv]
        generalize KI.near K v = x
        revert x; decide

end Cert.Proof.Math

end
-- ==== Proof.Math.Equal.lean ====
/-
  The equation: the kernel's result is the reference's, for all extended real arguments.
-/
module

public import proofs.«01_k».proof.Proof.Math.Matrix
public import proofs.«01_k».proof.Proof.Math.Loop

@[expose] public section

set_option maxRecDepth 16384

noncomputable section

namespace Cert.Proof.Math

open Cert.KernelIdeal Cert.KernelIdeal.Gen
open Idealize.ShloMosaic Idealize.ShloMosaic.TcCoe

variable (x0 : FVec Ideal S1024x128 .f32) (x1 : FVec Ideal S1024x64 .f32) (x2 : FVec Ideal S128x256 .f32) (x3 : FVec Ideal S256 .f32)
  (x4 : FVec Ideal S256x512 .f32) (x5 : FVec Ideal S512 .f32) (x6 : FVec Ideal S512x256 .f32) (x7 : FVec Ideal S256 .f32)
  (x8 : FVec Ideal S256x64 .f32) (x9 : FVec Ideal S64 .f32) (x10 : FVec Ideal S64x256 .f32) (x11 : FVec Ideal S256 .f32)
  (x12 : FVec Ideal S256x512 .f32) (x13 : FVec Ideal S512 .f32) (x14 : FVec Ideal S512x256 .f32) (x15 : FVec Ideal S256 .f32)
  (x16 : FVec Ideal S256x128 .f32) (x17 : FVec Ideal S128 .f32)

/-! ## The kernel's first two steps -/

/-- The start: every entry 1, not converged. -/
theorem st_zero (K : FVec Ideal S1024x1024 .f32) : (∀ j : Fin 1024, (st K 0).1 (ix1 j) = 1) ∧ (st K 0).2 ix0 = 0#1 := by
  refine ⟨fun j => ?_, rfl⟩
  show Ideal.ofBits .f32 0x3F800000#32 = 1
  simp [Ideal.ofBits, Ideal.ieee, -EReal.coe_mul]; norm_num

/-- In the first two steps nothing converges. -/
theorem st_flag (K : FVec Ideal S1024x1024 .f32) {k : ℕ} (h : k < 2) : (st K k).2 ix0 = 0#1 ∧ (st K (k + 1)).2 ix0 = 0#1 := by
  have step : ∀ n, n < 2 → (st K n).2 ix0 = 0#1 → (st K (n + 1)).2 ix0 = 0#1 := by
    intro n hn h0
    rw [st_succ_flag, h0, late_apply (by omega), if_neg (by omega)]
    generalize RI.close (st K n).1 _ ix0 = x
    revert x; decide
  have h0 := (st_zero K).2
  have h1 := step 0 (by omega) h0
  rcases k with _ | _ | k
  · exact ⟨h0, h1⟩
  · exact ⟨h1, step 1 (by omega) h1⟩
  · omega

/-- The kernel's column scaling after its first two steps, entry by entry. -/
theorem vTwo_apply (z p s : FVec Ideal S1024x64 .f32) (n : FVec Ideal S1024x1 .f32) (j : Fin 1024) :
    k0_pay9 (k0_pay7 z p n s) (k0_pay8 z p n s) (ix2 0 j)
      = Ideal.div wt ((∑ i : Fin 1024, k0_pay7 z p n s (ix2 i j) * Ideal.div wt ((∑ l : Fin 1024, k0_pay7 z p n s (ix2 i l) *
          Ideal.div wt ((∑ i' : Fin 1024, k0_pay7 z p n s (ix2 i' l) * Ideal.div wt ((∑ l' : Fin 1024, k0_pay7 z p n s (ix2 i' l')) + eps)) + eps)) + eps)) + eps) := by
  pointwise [k0_pay9, k0_pay8]

/-- It is the reference's after two steps. -/
theorem vTwo_same (z p s : FVec Ideal S1024x64 .f32) (n : FVec Ideal S1024x1 .f32) :
    Same (k0_pay9 (k0_pay7 z p n s) (k0_pay8 z p n s)) (st (k0_pay7 z p n s) 2).1 := by
  intro j
  rw [vTwo_apply]
  generalize k0_pay7 z p n s = K
  have h0 := (st_flag K (k := 0) (by omega)).1
  have h1 := (st_flag K (k := 0) (by omega)).2
  have hz : ¬ (0#1 : BitVec 1) = 1#1 := by decide
  rw [st_succ_col, h1, if_neg hz, newCol_apply]
  have hone : ∀ l : Fin 1024, (st K 1).1 (ix1 l) = Ideal.div wt ((∑ i' : Fin 1024, K (ix2 i' l) * Ideal.div wt ((∑ l' : Fin 1024, K (ix2 i' l')) + eps)) + eps) := by
    intro l
    rw [st_succ_col, h0, if_neg hz, newCol_apply]
    simp only [(st_zero K).1, mul_one]
  simp only [hone]

/-! ## The last column scaling -/

/-- The reference's matrix of the arguments. -/
abbrev Kref : FVec Ideal S1024x1024 .f32 := RI.gibbs (RI.cost (RI.enc x0 x2 x3 x4 x5 x6 x7 x8 x9) x1)

/-- The kernel's loop ends with the reference's last column scaling. -/
theorem vEnd_same : Same (KI.vEnd x0 x1 x2 x3 x4 x5 x6 x7 x8 x9) (st (Kref x0 x1 x2 x3 x4 x5 x6 x7 x8 x9) 1000).1 := by
  unfold Kref
  rw [← gibbs_eq]
  unfold KI.vEnd
  refine runFrom_same _ 998 2 _ _ (by omega) (by omega) (vTwo_same _ _ _ _) ?_
  exact (st_flag _ (k := 1) (by omega)).2.symm

/-- No entry of the reference's column scaling is negative. -/
theorem st_nonneg (K : FVec Ideal S1024x1024 .f32) (hK : ∀ i j : Fin 1024, 0 ≤ K (ix2 i j)) : ∀ (k : ℕ) (j : Fin 1024), 0 ≤ (st K k).1 (ix1 j)
  | 0, j => by rw [(st_zero K).1]; exact zero_le_one
  | k + 1, j => by
    have ih := st_nonneg K hK k
    rw [st_succ_col]
    split
    · exact ih j
    · rw [newCol_apply]
      refine scaling_nonneg (Finset.sum_nonneg fun i _ => mul_nonneg (hK i j) (scaling_nonneg (Finset.sum_nonneg fun l _ => ?_)))
      exact mul_nonneg (hK i l) (ih l)

/-! ## The plan applied to `p` -/

/-- The reference's plan applied to the rows `p`, entry by entry. -/
theorem plan_apply (K : FVec Ideal S1024x1024 .f32) (v : FVec Ideal S1024 .f32) (p : FVec Ideal S1024x64 .f32) (i : Fin 1024) (l : Fin 64) :
    RI.plan K RI.weights v p (ix2 i l)
      = ∑ j : Fin 1024, Ideal.div wt ((∑ j : Fin 1024, K (ix2 i j) * v (ix1 j)) + eps) * K (ix2 i j) * v (ix1 j) * p (ix2 j l) := by
  have hr := rowScale_apply K v i
  unfold RI.plan
  generalize RI.rowScale K RI.weights v = u at hr
  pointwise
  rw [hr]

/-- The kernel scales the rows of `p` before and the sums after the product; the reference scales the matrix. -/
theorem plan_same (K : FVec Ideal S1024x1024 .f32) (v : FVec Ideal S1024 .f32) (p : FVec Ideal S1024x64 .f32)
    (hK : ∀ i j : Fin 1024, 0 ≤ K (ix2 i j)) (hv : ∀ j : Fin 1024, 0 ≤ v (ix1 j)) (i : Fin 1024) (l : Fin 64) :
    Ideal.div wt ((∑ j : Fin 1024, K (ix2 i j) * v (ix1 j)) + eps) * (∑ j : Fin 1024, K (ix2 i j) * (v (ix1 j) * p (ix2 j l)))
      = RI.plan K RI.weights v p (ix2 i l) := by
  have hs : 0 ≤ ∑ j : Fin 1024, K (ix2 i j) * v (ix1 j) := Finset.sum_nonneg fun j _ => mul_nonneg (hK i j) (hv j)
  rw [plan_apply, mul_sum _ _ (scaling_nonneg hs) (scaling_ne_top hs)]
  exact Finset.sum_congr rfl fun j _ => by simp only [mul_assoc]

/-! ## The results -/

/-- The kernel's result is the reference's. -/
theorem out_eq : KI.out x0 x1 x2 x3 x4 x5 x6 x7 x8 x9 x10 x11 x12 x13 x14 x15 x16 x17
    = RI.out x0 x2 x3 x4 x5 x6 x7 x8 x9 x1 x10 x11 x12 x13 x14 x15 x16 x17 := by
  unfold KI.out RI.out
  refine dec_eq x1 x10 x11 x12 x13 x14 x15 x16 x17 _ _ _ fun i l => ?_
  rw [gibbs_eq]
  have hv := vEnd_same x0 x1 x2 x3 x4 x5 x6 x7 x8 x9
  simp only [hv _]
  have hK : ∀ i j : Fin 1024, 0 ≤ Kref x0 x1 x2 x3 x4 x5 x6 x7 x8 x9 (ix2 i j) := fun i j => gibbs_nonneg _ x1 i j
  exact plan_same _ _ x1 hK (st_nonneg _ hK 1000) i l

end Cert.Proof.Math

end
-- ==== Proof.lean ====
/-
  The proof of `Cert.Claim`: the three programs run quietly, the named constant is sound, and the kernel's
  result is the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Run
public import proofs.«01_k».proof.Proof.Math.Equal
public import Idealize.ShloMosaic.Adequacy
public import Idealize.ShloMosaic.Init

@[expose] public section

noncomputable section

namespace Cert.Proof

open Idealize.ShloMosaic Idealize.SL.Sem Idealize.ShloMosaic.TcCoe

/-- Every run of the kernel ends, leaves its arguments alone and every counter at zero. -/
theorem frame_K : Cert.quiescent_Kernel (hKernel := Cert.Kernel.Gen.facts) := fun m ρ _ =>
  (θ_run Cert.Kernel.defs _ _).mono (fun _ h => ⟨fun c => (h.1 c).2, h.2⟩) (Cert.Proof.K.run_main m ρ)

/-- So does every run of its idealization. -/
theorem frame_KI : Cert.quiescent_KernelIdeal (hKernelIdeal := Cert.KernelIdeal.Gen.facts) := fun m ρ _ =>
  (θ_run Cert.KernelIdeal.defs _ _).mono (fun _ h => ⟨fun c => (h.1 c).2, h.2⟩) (Cert.Proof.KI.run_main m ρ)

/-- So does every run of the reference. -/
theorem frame_RI : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.Proof.RI.run_main m ρ)

/-- The kernel's literal 20 is the named number 268435456 / 13421773, rounded. -/
theorem named : Cert.preserves_Kernel_KernelIdeal :=
  IdealRules.named_const.statement Cert.KernelIdeal.κ "inv_reg" .f32 0x41A00000#32 ((268435456 / 13421773 : ℝ) : EReal) rfl

/-- On equal arguments the reference ends with what the kernel ends with. -/
theorem ref_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.Proof.RI.outOf m' c = Cert.Proof.KI.outOf m c := by
  obtain ⟨h0, h1, h2, h3, h4, h5, h6, h7, h8, h9, h10, h11, h12, h13, h14, h15, h16, h17⟩ := h
  unfold Cert.Proof.RI.outOf Cert.Proof.KI.outOf
  rw [Math.out_eq]
  simp only [Cert.Proof.RI.inp0, Cert.Proof.RI.inp1, Cert.Proof.RI.inp2, Cert.Proof.RI.inp3, Cert.Proof.RI.inp4, Cert.Proof.RI.inp5, Cert.Proof.RI.inp6, Cert.Proof.RI.inp7, Cert.Proof.RI.inp8, Cert.Proof.RI.inp9, Cert.Proof.RI.inp10, Cert.Proof.RI.inp11, Cert.Proof.RI.inp12, Cert.Proof.RI.inp13, Cert.Proof.RI.inp14, Cert.Proof.RI.inp15, Cert.Proof.RI.inp16, Cert.Proof.RI.inp17]
  rw [h0, h1, h2, h3, h4, h5, h6, h7, h8, h9, h10, h11, h12, h13, h14, h15, h16, h17]

/-- The kernel's idealization and the reference end with equal results from equal arguments. -/
theorem equal : Cert.algebraic_KernelIdeal_ReferenceIdeal (hKernelIdeal := Cert.KernelIdeal.Gen.facts) (hReferenceIdeal := Cert.ReferenceIdeal.Gen.facts) := by
  intro m g m' g' _ hargs
  refine ⟨fun c => Cert.Proof.KI.outOf m c, ?_, ?_⟩
  · exact (θ_run Cert.KernelIdeal.defs _ _).mono (fun _ h => h.1) (Cert.Proof.KI.run_main m g)
  · refine (θ_run Cert.ReferenceIdeal.defs _ _).mono (fun _ h c => ?_) (Cert.Proof.RI.run_main m' g')
    exact ⟨(h.1 c).1.trans (ref_out m m' c (hargs c)), (h.1 c).2⟩

/-- Every claim. -/
theorem claim : Cert.Claim :=
  ⟨Cert.Kernel.Gen.facts, Cert.KernelIdeal.Gen.facts, Cert.ReferenceIdeal.Gen.facts, frame_K, frame_KI, frame_RI, named, equal⟩

end Cert.Proof

end
